-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
-- ==== Pre_codes_in_range.lean ====
abbrev S5x20x12288 : Shape := ⟨3, ![5, 20, 12288]⟩
abbrev S20x1024x8 : Shape := ⟨3, ![20, 1024, 8]⟩
abbrev S20x8x2048 : Shape := ⟨3, ![20, 8, 2048]⟩
abbrev S20x2048 : Shape := ⟨2, ![20, 2048]⟩
abbrev S_ : Shape := ⟨0, ![]⟩

class Facts : Prop where
  bcast_S_S5x20x12288 : S_.BroadcastsInDim S5x20x12288 (![] : Fin 0 → Fin S5x20x12288.rank)

variable [Facts]

def fn {F : FTy → Type} [FloatOps F] (main_arg0 : IVec S5x20x12288 32) (main_arg1 : FVec F S20x1024x8 .bf16) (main_arg2 : FVec F S20x8x2048 .fp8e4m3) (main_arg3 : FVec F S20x2048 .f32) (main_arg4 : FVec F S20x2048 .f32) : IVec S5x20x12288 1 :=
  let main_c : IVec S_ 32 := constantI S_ 32 0#32
  let main_v0 : IVec S5x20x12288 32 := broadcastInDim S5x20x12288 ![] bcast_S_S5x20x12288 main_c
  let main_v1 : IVec S5x20x12288 1 := cmpi .sge main_arg0 main_v0
  let main_c_0 : IVec S_ 32 := constantI S_ 32 1024#32
  let main_v2 : IVec S5x20x12288 32 := broadcastInDim S5x20x12288 ![] bcast_S_S5x20x12288 main_c_0
  let main_v3 : IVec S5x20x12288 1 := cmpi .slt main_arg0 main_v2
  let main_v4 : IVec S5x20x12288 1 := andi main_v1 main_v3
  main_v4
-- ==== Kernel.lean ====
abbrev S5x20x12288 : Shape := ⟨3, ![5, 20, 12288]⟩
abbrev S20x1024x8 : Shape := ⟨3, ![20, 1024, 8]⟩
abbrev S20x8x2048 : Shape := ⟨3, ![20, 8, 2048]⟩
abbrev S20x2048 : Shape := ⟨2, ![20, 2048]⟩
abbrev S20x8x1024 : Shape := ⟨3, ![20, 8, 1024]⟩
abbrev S5x12288x2048 : Shape := ⟨3, ![5, 12288, 2048]⟩
abbrev S1x20x512 : Shape := ⟨3, ![1, 20, 512]⟩
abbrev S1x1024x2048 : Shape := ⟨3, ![1, 1024, 2048]⟩
abbrev S10x16x1024 : Shape := ⟨3, ![10, 16, 1024]⟩
abbrev S256x2048 : Shape := ⟨2, ![256, 2048]⟩
abbrev S1x2048 : Shape := ⟨2, ![1, 2048]⟩
abbrev S512x256 : Shape := ⟨2, ![512, 256]⟩
abbrev S1x8x1024 : Shape := ⟨3, ![1, 8, 1024]⟩
abbrev S8x1024 : Shape := ⟨2, ![8, 1024]⟩
abbrev S16x1024 : Shape := ⟨2, ![16, 1024]⟩
abbrev S1x16x1024 : Shape := ⟨3, ![1, 16, 1024]⟩
abbrev S1x8x2048 : Shape := ⟨3, ![1, 8, 2048]⟩
abbrev S8x2048 : Shape := ⟨2, ![8, 2048]⟩
abbrev S96x2048 : Shape := ⟨2, ![96, 2048]⟩
abbrev S512x128 : Shape := ⟨2, ![512, 128]⟩
abbrev S2048 : Shape := ⟨1, ![2048]⟩
abbrev S16x128 : Shape := ⟨2, ![16, 128]⟩
abbrev S1x1x128 : Shape := ⟨3, ![1, 1, 128]⟩
abbrev S1x128 : Shape := ⟨2, ![1, 128]⟩
abbrev S1x16x128 : Shape := ⟨3, ![1, 16, 128]⟩
abbrev S16x128x1 : Shape := ⟨3, ![16, 128, 1]⟩
abbrev S160x128 : Shape := ⟨2, ![160, 128]⟩
abbrev S128x160 : Shape := ⟨2, ![128, 160]⟩
abbrev S256x256 : Shape := ⟨2, ![256, 256]⟩
abbrev S1x256 : Shape := ⟨2, ![1, 256]⟩
abbrev S1x512x256 : Shape := ⟨3, ![1, 512, 256]⟩

abbrev nBuf : Space → Nat
  | .hbm => 7
  | .vmem => 16
  | .smem => 0
  | _ => 0

abbrev bufTy : (tb : Table) → Fin (tcTables nBuf tb) → BufTy
  | .hbm, ⟨0, _⟩ => ⟨S5x20x12288, .i32⟩
  | .hbm, ⟨1, _⟩ => ⟨S20x1024x8, .bf16⟩
  | .hbm, ⟨2, _⟩ => ⟨S20x8x2048, .fp8e4m3⟩
  | .hbm, ⟨3, _⟩ => ⟨S20x2048, .f32⟩
  | .hbm, ⟨4, _⟩ => ⟨S20x2048, .f32⟩
  | .hbm, ⟨5, _⟩ => ⟨S20x8x1024, .bf16⟩
  | .hbm, ⟨6, _⟩ => ⟨S5x12288x2048, .bf16⟩
  | .local _ .vmem, ⟨0, _⟩ => ⟨S1x20x512, .i32⟩
  | .local _ .vmem, ⟨1, _⟩ => ⟨S1x20x512, .i32⟩
  | .local _ .vmem, ⟨2, _⟩ => ⟨S1x20x512, .i32⟩
  | .local _ .vmem, ⟨3, _⟩ => ⟨S1x20x512, .i32⟩
  | .local _ .vmem, ⟨4, _⟩ => ⟨S1x20x512, .i32⟩
  | .local _ .vmem, ⟨5, _⟩ => ⟨S20x8x1024, .bf16⟩
  | .local _ .vmem, ⟨6, _⟩ => ⟨S20x8x2048, .fp8e4m3⟩
  | .local _ .vmem, ⟨7, _⟩ => ⟨S20x2048, .f32⟩
  | .local _ .vmem, ⟨8, _⟩ => ⟨S20x2048, .f32⟩
  | .local _ .vmem, ⟨9, _⟩ => ⟨S1x1024x2048, .bf16⟩
  | .local _ .vmem, ⟨10, _⟩ => ⟨S1x1024x2048, .bf16⟩
  | .local _ .vmem, ⟨11, _⟩ => ⟨S10x16x1024, .f32⟩
  | .local _ .vmem, ⟨12, _⟩ => ⟨S256x2048, .bf16⟩
  | .local _ .vmem, ⟨13, _⟩ => ⟨S1x2048, .f32⟩
  | .local _ .vmem, ⟨14, _⟩ => ⟨S512x256, .bf16⟩
  | .local _ .vmem, ⟨15, _⟩ => ⟨S512x256, .bf16⟩
  | _, _ => ⟨S5x20x12288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![60], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c119_i32 : BitVec 32 := 119#32
  let v2 : BitVec 32 := Scalar.minsi v1 c119_i32
  let c24_i32 : BitVec 32 := 24#32
  let v3 : BitVec 32 := Scalar.divsi v2 c24_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c24_i32 c0_i32_1
  let v10 : BitVec 32 := Scalar.extui v9
  let c0_i32_2 : BitVec 32 := 0#32
  let v11 : BitVec 1 := Scalar.cmpi .slt c24_i32 c0_i32_2
  let v12 : BitVec 32 := Scalar.extui v11
  let v13 : BitVec 32 := Scalar.subi v10 v12
  let v14 : BitVec 1 := Scalar.cmpi .ne v8 v13
  let v15 : BitVec 32 := Scalar.remsi v2 c24_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c24_i32_5 : BitVec 32 := 24#32
  let c0_i32_6 : BitVec 32 := 0#32
  let v20 : BitVec 1 := Scalar.cmpi .eq c24_i32_5 c0_i32_6
  let c1_i32_7 : BitVec 32 := 1#32
  let v21 : BitVec 32 := Scalar.select v20 c1_i32_7 c24_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

def cc0_transform_2 (i : grid0.Coords) : Fin 3 → Nat :=
  let arg0 : BitVec 32 := BitVec.ofNat 32 (i 0).val
  let c2_i32 : BitVec 32 := 2#32
  let v0 : BitVec 32 := Scalar.muli arg0 c2_i32
  let c2_i32_0 : BitVec 32 := 2#32
  let v1 : BitVec 32 := Scalar.addi v0 c2_i32_0
  let c119_i32 : BitVec 32 := 119#32
  let v2 : BitVec 32 := Scalar.minsi v1 c119_i32
  let c24_i32 : BitVec 32 := 24#32
  let v3 : BitVec 32 := Scalar.divsi v2 c24_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c24_i32 c0_i32_2
  let v10 : BitVec 32 := Scalar.extui v9
  let c0_i32_3 : BitVec 32 := 0#32
  let v11 : BitVec 1 := Scalar.cmpi .slt c24_i32 c0_i32_3
  let v12 : BitVec 32 := Scalar.extui v11
  let v13 : BitVec 32 := Scalar.subi v10 v12
  let v14 : BitVec 1 := Scalar.cmpi .ne v8 v13
  let v15 : BitVec 32 := Scalar.remsi v2 c24_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c24_i32_5 : BitVec 32 := 24#32
  let c0_i32_6 : BitVec 32 := 0#32
  let v20 : BitVec 1 := Scalar.cmpi .eq c24_i32_5 c0_i32_6
  let c1_i32_7 : BitVec 32 := 1#32
  let v21 : BitVec 32 := Scalar.select v20 c1_i32_7 c24_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, c0_i32_11.toNat, v29.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 1 → Memref sig .tc .vmem S1x20x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x20x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x8x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S5x20x12288 : Shape := ⟨3, ![5, 20, 12288]⟩
abbrev S20x1024x8 : Shape := ⟨3, ![20, 1024, 8]⟩
abbrev S20x8x2048 : Shape := ⟨3, ![20, 8, 2048]⟩
abbrev S20x2048 : Shape := ⟨2, ![20, 2048]⟩
abbrev S5x12288x20 : Shape := ⟨3, ![5, 12288, 20]⟩
abbrev S20 : Shape := ⟨1, ![20]⟩
abbrev S_ : Shape := ⟨0, ![]⟩
abbrev S1x1x20 : Shape := ⟨3, ![1, 1, 20]⟩
abbrev S20480x8 : Shape := ⟨2, ![20480, 8]⟩
abbrev S5x12288x20x1 : Shape := ⟨4, ![5, 12288, 20, 1]⟩
abbrev S1 : Shape := ⟨1, ![1]⟩
abbrev S1x1x1x1 : Shape := ⟨4, ![1, 1, 1, 1]⟩
abbrev S5x12288x20x8 : Shape := ⟨4, ![5, 12288, 20, 8]⟩
abbrev S5x12288x160 : Shape := ⟨3, ![5, 12288, 160]⟩
abbrev S5x12288x2048 : Shape := ⟨3, ![5, 12288, 2048]⟩
abbrev S20x1x2048 : Shape := ⟨3, ![20, 1, 2048]⟩
abbrev S160x2048 : Shape := ⟨2, ![160, 2048]⟩
abbrev S2048 : Shape := ⟨1, ![2048]⟩
abbrev S1x1x2048 : Shape := ⟨3, ![1, 1, 2048]⟩

abbrev nBuf : Space → Nat
  | .hbm => 39
  | .vmem => 5
  | .smem => 0
  | _ => 0

abbrev bufTy : (tb : Table) → Fin (tcTables nBuf tb) → BufTy
  | .hbm, ⟨0, _⟩ => ⟨S5x20x12288, .i32⟩
  | .hbm, ⟨1, _⟩ => ⟨S20x1024x8, .bf16⟩
  | .hbm, ⟨2, _⟩ => ⟨S20x8x2048, .fp8e4m3⟩
  | .hbm, ⟨3, _⟩ => ⟨S20x2048, .f32⟩
  | .hbm, ⟨4, _⟩ => ⟨S20x2048, .f32⟩
  | .hbm, ⟨5, _⟩ => ⟨S5x12288x20, .i32⟩
  | .hbm, ⟨6, _⟩ => ⟨S20, .i32⟩
  | .hbm, ⟨7, _⟩ => ⟨S_, .i32⟩
  | .hbm, ⟨8, _⟩ => ⟨S20, .i32⟩
  | .hbm, ⟨9, _⟩ => ⟨S20, .i32⟩
  | .hbm, ⟨10, _⟩ => ⟨S1x1x20, .i32⟩
  | .hbm, ⟨11, _⟩ => ⟨S5x12288x20, .i32⟩
  | .hbm, ⟨12, _⟩ => ⟨S5x12288x20, .i32⟩
  | .hbm, ⟨13, _⟩ => ⟨S20480x8, .bf16⟩
  | .hbm, ⟨14, _⟩ => ⟨S_, .i32⟩
  | .hbm, ⟨15, _⟩ => ⟨S5x12288x20, .i32⟩
  | .hbm, ⟨16, _⟩ => ⟨S5x12288x20, .i1⟩
  | .hbm, ⟨17, _⟩ => ⟨S_, .i32⟩
  | .hbm, ⟨18, _⟩ => ⟨S5x12288x20, .i32⟩
  | .hbm, ⟨19, _⟩ => ⟨S5x12288x20, .i32⟩
  | .hbm, ⟨20, _⟩ => ⟨S5x12288x20, .i32⟩
  | .hbm, ⟨21, _⟩ => ⟨S5x12288x20x1, .i32⟩
  | .hbm, ⟨22, _⟩ => ⟨S1, .i32⟩
  | .hbm, ⟨23, _⟩ => ⟨S_, .i32⟩
  | .hbm, ⟨24, _⟩ => ⟨S5x12288x20x1, .i32⟩
  | .hbm, ⟨25, _⟩ => ⟨S5x12288x20x1, .i1⟩
  | .hbm, ⟨26, _⟩ => ⟨S1x1x1x1, .i32⟩
  | .hbm, ⟨27, _⟩ => ⟨S5x12288x20x1, .i32⟩
  | .hbm, ⟨28, _⟩ => ⟨S5x12288x20x1, .i1⟩
  | .hbm, ⟨29, _⟩ => ⟨S5x12288x20x1, .i1⟩
  | .hbm, ⟨30, _⟩ => ⟨S_, .i1⟩
  | .hbm, ⟨31, _⟩ => ⟨S5x12288x20, .i1⟩
  | .hbm, ⟨32, _⟩ => ⟨S5x12288x20x8, .bf16⟩
  | .hbm, ⟨33, _⟩ => ⟨S5x12288x20x8, .i1⟩
  | .hbm, ⟨34, _⟩ => ⟨S_, .bf16⟩
  | .hbm, ⟨35, _⟩ => ⟨S5x12288x20x8, .bf16⟩
  | .hbm, ⟨36, _⟩ => ⟨S5x12288x20x8, .bf16⟩
  | .hbm, ⟨37, _⟩ => ⟨S5x12288x160, .bf16⟩
  | .hbm, ⟨38, _⟩ => ⟨S5x12288x2048, .bf16⟩
  | .local _ .vmem, ⟨0, _⟩ => ⟨S5x12288x160, .bf16⟩
  | .local _ .vmem, ⟨1, _⟩ => ⟨S20x8x2048, .fp8e4m3⟩
  | .local _ .vmem, ⟨2, _⟩ => ⟨S20x2048, .f32⟩
  | .local _ .vmem, ⟨3, _⟩ => ⟨S20x2048, .f32⟩
  | .local _ .vmem, ⟨4, _⟩ => ⟨S5x12288x2048, .bf16⟩
  | _, _ => ⟨S5x20x12288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S5x12288x160 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x8x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x12288x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Pure.lean ====
module

public import proofs.«01_k».proof.Proof.Gen.KernelIdeal.Value
public import Idealize.ShloMosaic.Lib.Pointwise

@[expose] public section

noncomputable section

namespace Cert.Proof.Ker

open Cert.KernelIdeal Cert.KernelIdeal.Gen Idealize.ShloMosaic Idealize.ShloMosaic.TcCoe Idealize.ShloMosaic.Tactic
open Idealize.SL.Sem

variable {F : FTy → Type} [FloatOps F]

/-- One level's row of codes, copied to all sixteen rows. -/
def spread (x : Vec F S1x1x128 .i32) : IVec S16x128 32 :=
  broadcastTo S16x128 (shapeCast S1x128 (shapeCast S1x128 x shapeCasts_S1x1x128_S1x128) shapeCasts_S1x128_S1x128)
    broadcasts_S1x128_S16x128

/-- The codes of a pair of levels: rows 0 to 7 carry the even level, rows 8 to 15 the odd one. -/
def codeOf (lo hi : Vec F S1x1x128 .i32) : IVec S16x128 32 :=
  select (cmpi .slt (iota .tc S16x128 32 [0] iota_S16x128_d0_w32) (broadcast S16x128 8#32)) (spread (F := F) lo) (spread (F := F) hi)

/-- The low seven bits of the codes: the lane within a block of 128 entries. -/
def laneOf (code : IVec S16x128 32) : IVec S16x128 32 :=
  shapeCast S16x128 (shapeCast S16x128x1 (andi code (broadcast S16x128 127#32)) shapeCasts_S16x128_S16x128x1)
    shapeCasts_S16x128x1_S16x128

/-- The entries of one block of 128, read at the codes' lanes. -/
def gat (code : IVec S16x128 32) (t : Vec F S1x16x128 .f32) : FVec F S16x128 .f32 :=
  dynamicGather 1 (shapeCast S16x128 t shapeCasts_S1x16x128_S16x128) (laneOf code)

/-- Which codes have the bit `k`. -/
def bitOf (k : BitVec 32) (code : IVec S16x128 32) : IVec S16x128 1 :=
  cmpi .ne (andi code (broadcast S16x128 k)) (broadcast S16x128 0#32)

/-- The entries of a pair of levels at the codes: eight lane lookups, halved three times by the codes' bits 7, 8, 9. -/
def pairRow (lo hi : Vec F S1x1x128 .i32) (t : Fin 8 → Vec F S1x16x128 .f32) : FVec F S16x128 .bf16 :=
  truncf .bf16
    (select (bitOf 512#32 (codeOf (F := F) lo hi))
      (select (bitOf 256#32 (codeOf (F := F) lo hi))
        (select (bitOf 128#32 (codeOf (F := F) lo hi)) (gat (codeOf (F := F) lo hi) (t 7)) (gat (codeOf (F := F) lo hi) (t 6)))
        (select (bitOf 128#32 (codeOf (F := F) lo hi)) (gat (codeOf (F := F) lo hi) (t 5)) (gat (codeOf (F := F) lo hi) (t 4))))
      (select (bitOf 256#32 (codeOf (F := F) lo hi))
        (select (bitOf 128#32 (codeOf (F := F) lo hi)) (gat (codeOf (F := F) lo hi) (t 3)) (gat (codeOf (F := F) lo hi) (t 2)))
        (select (bitOf 128#32 (codeOf (F := F) lo hi)) (gat (codeOf (F := F) lo hi) (t 1)) (gat (codeOf (F := F) lo hi) (t 0)))))
    bitsLt_bf16_f32

/-- The embeddings of a group of 128 tokens: the ten pairs' rows below each other, transposed. -/
def embG (x : Fin 20 → Vec F S1x1x128 .i32) (t : Fin 10 → Fin 8 → Vec F S1x16x128 .f32) : FVec F S128x160 .bf16 :=
  shapeCast S128x160
    (transpose S128x160 [1, 0]
      (concatenate S160x128 0
        [⟨S16x128, pairRow (x 0) (x 1) (t 0)⟩, ⟨S16x128, pairRow (x 2) (x 3) (t 1)⟩,
         ⟨S16x128, pairRow (x 4) (x 5) (t 2)⟩, ⟨S16x128, pairRow (x 6) (x 7) (t 3)⟩,
         ⟨S16x128, pairRow (x 8) (x 9) (t 4)⟩, ⟨S16x128, pairRow (x 10) (x 11) (t 5)⟩,
         ⟨S16x128, pairRow (x 12) (x 13) (t 6)⟩, ⟨S16x128, pairRow (x 14) (x 15) (t 7)⟩,
         ⟨S16x128, pairRow (x 16) (x 17) (t 8)⟩, ⟨S16x128, pairRow (x 18) (x 19) (t 9)⟩]
        concatenates_S16x128_S16x128_S16x128_S16x128_S16x128_S16x128_S16x128_S16x128_S16x128_S16x128_S160x128_d0)
      transposes_S160x128_p1_0_S128x160)
    shapeCasts_S128x160_S128x160

/-- A row of codes at level `l`, tokens `n` to `n + 127`, lies in the block. -/
theorem inb_code (l : Fin 20) (g : Fin 4) :
    ∀ a, ((![0, l.val, 128 * g.val] : Fin 3 → ℕ) a) + S1x1x128.size a ≤ S1x20x512.size a := by
  have := l.isLt; have := g.isLt
  intro a; match a with
  | ⟨0, _⟩ => show 0 + 1 ≤ 1; omega
  | ⟨1, _⟩ => show l.val + 1 ≤ 20; omega
  | ⟨2, _⟩ => show 128 * g.val + 128 ≤ 512; omega

/-- Block `b` of pair `p` lies in the table. -/
theorem inb_tab (p : Fin 10) (b : Fin 8) :
    ∀ a, ((![p.val, 0, 128 * b.val] : Fin 3 → ℕ) a) + S1x16x128.size a ≤ S10x16x1024.size a := by
  have := p.isLt; have := b.isLt
  intro a; match a with
  | ⟨0, _⟩ => show p.val + 1 ≤ 10; omega
  | ⟨1, _⟩ => show 0 + 16 ≤ 16; omega
  | ⟨2, _⟩ => show 128 * b.val + 128 ≤ 1024; omega

/-- The rectangle of level `l`'s codes in group `g`. -/
abbrev rCode (g : Fin 4) (l : Fin 20) : Rect S1x20x512 := Rect.unit ![0, l.val, 128 * g.val] S1x1x128.size (inb_code l g)

/-- The rectangle of block `b` of pair `p` in the table. -/
abbrev rTab (p : Fin 10) (b : Fin 8) : Rect S10x16x1024 := Rect.unit ![p.val, 0, 128 * b.val] S1x16x128.size (inb_tab p b)

/-- A group's rows lie in an embedding buffer. -/
theorem inb_emb (g : Fin 4) :
    ∀ a, ((![128 * g.val, 0] : Fin 2 → ℕ) a) + S128x160.size a ≤ S512x256.size a := by
  have := g.isLt
  intro a; match a with
  | ⟨0, _⟩ => show 128 * g.val + 128 ≤ 512; omega
  | ⟨1, _⟩ => show 0 + 160 ≤ 256; omega

/-- The rectangle of a group's embeddings in an embedding buffer. -/
abbrev rEmb (g : Fin 4) : Rect S512x256 := Rect.unit ![128 * g.val, 0] S128x160.size (inb_emb g)

/-- The four groups' pieces of an embedding buffer, the last first. -/
def embL (e : Fin 4 → FVec F S128x160 .bf16) : List (View.Piece (Elt F) S512x256 .bf16) :=
  [⟨rEmb 3, e 3⟩, ⟨rEmb 2, e 2⟩, ⟨rEmb 1, e 1⟩, ⟨rEmb 0, e 0⟩]

/-- The piece that clears the columns from 128 on. -/
def zeroE : View.Piece (Elt F) S512x256 .bf16 :=
  ⟨Rect.unit ![0, 128] S512x128.size inb_S512x256_S512x128_0_128,
    shapeCast S512x128 (broadcast S512x128 (Scalar.ofBits (F := F) .bf16 0x0000#16)) shapeCasts_S512x128_S512x128⟩

/-- A pair of levels' codebooks below each other, widened. -/
def tabP (a b : Vec F S1x8x1024 .bf16) : FVec F S1x16x1024 .f32 :=
  shapeCast S1x16x1024
    (extf .f32
      (concatenate S16x1024 0
        [⟨S8x1024, shapeCast S8x1024 a shapeCasts_S1x8x1024_S8x1024⟩,
         ⟨S8x1024, shapeCast S8x1024 b shapeCasts_S1x8x1024_S8x1024⟩]
        concatenates_S8x1024_S8x1024_S16x1024_d0)
      bitsLt_bf16_f32)
    shapeCasts_S16x1024_S1x16x1024

/-- The rectangle of a level's codebook. -/
abbrev rBook (l : Fin 20) : Rect S20x8x1024 := Rect.unit ![l.val, 0, 0] S1x8x1024.size (by
  have := l.isLt
  intro a; match a with
  | ⟨0, _⟩ => show l.val + 1 ≤ 20; omega
  | ⟨1, _⟩ => show 0 + 8 ≤ 8; omega
  | ⟨2, _⟩ => show 0 + 1024 ≤ 1024; omega)

/-- A pair of levels lies in the table. -/
theorem inb_pair (p : Fin 10) :
    ∀ a, ((![p.val, 0, 0] : Fin 3 → ℕ) a) + S1x16x1024.size a ≤ S10x16x1024.size a := by
  have := p.isLt
  intro a; match a with
  | ⟨0, _⟩ => show p.val + 1 ≤ 10; omega
  | ⟨1, _⟩ => show 0 + 16 ≤ 16; omega
  | ⟨2, _⟩ => show 0 + 1024 ≤ 1024; omega

/-- The rectangle of a pair of levels in the table. -/
abbrev rPair (p : Fin 10) : Rect S10x16x1024 := Rect.unit ![p.val, 0, 0] S1x16x1024.size (inb_pair p)

/-- The even level of a pair. -/
abbrev evenOf (p : Fin 10) : Fin 20 := ⟨2 * p.val, by have := p.isLt; omega⟩

/-- The odd level of a pair. -/
abbrev oddOf (p : Fin 10) : Fin 20 := ⟨2 * p.val + 1, by have := p.isLt; omega⟩

/-- The table's pieces, the last first. -/
def tabL (x : Fin 20 → Vec F S1x8x1024 .bf16) : List (View.Piece (Elt F) S10x16x1024 .f32) :=
  [9, 8, 7, 6, 5, 4, 3, 2, 1, 0].map fun p : Fin 10 => ⟨rPair p, tabP (x (evenOf p)) (x (oddOf p))⟩

/-- A level's rows of the weights: its codes times its scales. -/
def wP (l : Fin 20) (s : Vec F S20x2048 .f32) (x : Vec F S1x8x2048 .fp8e4m3) : FVec F S8x2048 .bf16 :=
  shapeCast S8x2048
    (truncf .bf16
      (mulf (extf .f32 (shapeCast S8x2048 x shapeCasts_S1x8x2048_S8x2048) bitsLt_fp8e4m3_f32)
        (broadcastTo S8x2048
          (extractStridedSlice S1x2048 ![l.val, 0]
            (extf .f32 (truncf .bf16 s bitsLt_bf16_f32) bitsLt_bf16_f32)
            ⟨rfl, by
              have := l.isLt
              intro a; match a with
              | ⟨0, _⟩ => show l.val + 1 ≤ 20; omega
              | ⟨1, _⟩ => show 0 + 2048 ≤ 2048; omega⟩)
          broadcasts_S1x2048_S8x2048))
      bitsLt_bf16_f32)
    shapeCasts_S8x2048_S8x2048

/-- The rectangle of a level's weight codes. -/
abbrev rCodes (l : Fin 20) : Rect S20x8x2048 := Rect.unit ![l.val, 0, 0] S1x8x2048.size (by
  have := l.isLt
  intro a; match a with
  | ⟨0, _⟩ => show l.val + 1 ≤ 20; omega
  | ⟨1, _⟩ => show 0 + 8 ≤ 8; omega
  | ⟨2, _⟩ => show 0 + 2048 ≤ 2048; omega)

/-- A level's rows lie in the weights. -/
theorem inb_w (l : Fin 20) :
    ∀ a, ((![8 * l.val, 0] : Fin 2 → ℕ) a) + S8x2048.size a ≤ S256x2048.size a := by
  have := l.isLt
  intro a; match a with
  | ⟨0, _⟩ => show 8 * l.val + 8 ≤ 256; omega
  | ⟨1, _⟩ => show 0 + 2048 ≤ 2048; omega

/-- The rectangle of a level's rows in the weights. -/
abbrev rW (l : Fin 20) : Rect S256x2048 := Rect.unit ![8 * l.val, 0] S8x2048.size (inb_w l)

/-- The weights' pieces, the last first: the rows below the twenty levels are cleared. -/
def wL (s : Vec F S20x2048 .f32) (x : Fin 20 → Vec F S1x8x2048 .fp8e4m3) : List (View.Piece (Elt F) S256x2048 .bf16) :=
  ⟨Rect.unit ![160, 0] S96x2048.size inb_S256x2048_S96x2048_160_0,
    shapeCast S96x2048 (broadcast S96x2048 (Scalar.ofBits (F := F) .bf16 0x0000#16)) shapeCasts_S96x2048_S96x2048⟩ ::
  [19, 18, 17, 16, 15, 14, 13, 12, 11, 10, 9, 8, 7, 6, 5, 4, 3, 2, 1, 0].map fun l : Fin 20 => ⟨rW l, wP l s (x l)⟩

/-- The sum of the biases of the levels. -/
def biasP (x : Vec F S20x2048 .f32) : FVec F S1x2048 .f32 :=
  shapeCast S1x2048
    (shapeCast S1x2048
      (multiReduction .add [0] S2048 x 0x00000000#32 reduces_S20x2048_S2048 (.inl rfl) rfl)
      shapeCasts_S2048_S1x2048)
    shapeCasts_S1x2048_S1x2048

/-- The rectangle of a tile's columns in the weights. -/
abbrev rWc (n : Fin 8) : Rect S256x2048 := Rect.unit ![0, 256 * n.val] S256x256.size (by
  have := n.isLt
  intro a; match a with
  | ⟨0, _⟩ => show 0 + 256 ≤ 256; omega
  | ⟨1, _⟩ => show 256 * n.val + 256 ≤ 2048; omega)

/-- The rectangle of a tile's columns in the summed biases. -/
abbrev rBc (n : Fin 8) : Rect S1x2048 := Rect.unit ![0, 256 * n.val] S1x256.size (by
  have := n.isLt
  intro a; match a with
  | ⟨0, _⟩ => show 0 + 1 ≤ 1; omega
  | ⟨1, _⟩ => show 256 * n.val + 256 ≤ 2048; omega)

/-- A tile lies in the output block. -/
theorem inb_out (h : Fin 2) (n : Fin 8) :
    ∀ a, ((![0, 512 * h.val, 256 * n.val] : Fin 3 → ℕ) a) + S1x512x256.size a ≤ S1x1024x2048.size a := by
  have := h.isLt; have := n.isLt
  intro a; match a with
  | ⟨0, _⟩ => show 0 + 1 ≤ 1; omega
  | ⟨1, _⟩ => show 512 * h.val + 512 ≤ 1024; omega
  | ⟨2, _⟩ => show 256 * n.val + 256 ≤ 2048; omega

/-- The rectangle of a tile in the output block: phase `h`'s 512 rows, tile `n`'s 256 columns. -/
abbrev rOut (h : Fin 2) (n : Fin 8) : Rect S1x1024x2048 := Rect.unit ![0, 512 * h.val, 256 * n.val] S1x512x256.size (inb_out h n)

/-- A tile of the output: the embeddings times the tile's weights, plus the summed biases. -/
def outP (e : Vec F S512x256 .bf16) (w : Vec F S256x256 .bf16) (s : Vec F S1x256 .f32) : FVec F S1x512x256 .bf16 :=
  shapeCast S1x512x256
    (truncf .bf16
      (addf
        (matmul dot_S512x256_S256x256_S512x256_1_0_0_1_n_n none e w (constant S512x256 .f32 0x00000000#32))
        (broadcastTo S512x256 s broadcasts_S1x256_S512x256))
      bitsLt_bf16_f32)
    shapeCasts_S512x256_S1x512x256

/-- The sixteen tiles' pieces of the output block, the last first. -/
def outL (e : Fin 2 → Vec F S512x256 .bf16) (w : Fin 8 → Vec F S256x256 .bf16) (s : Fin 8 → Vec F S1x256 .f32) :
    List (View.Piece (Elt F) S1x1024x2048 .bf16) :=
  [(1, 7), (1, 6), (1, 5), (1, 4), (1, 3), (1, 2), (1, 1), (1, 0),
   (0, 7), (0, 6), (0, 5), (0, 4), (0, 3), (0, 2), (0, 1), (0, 0)].map
    fun q : Fin 2 × Fin 8 => ⟨rOut q.1 q.2, outP (e q.1) (w q.2) (s q.2)⟩

end Cert.Proof.Ker

end
-- ==== Proof.Runs.lean ====
module

public import proofs.«01_k».proof.Proof.Pure

@[expose] public section

set_option maxRecDepth 65536

noncomputable section

namespace Cert.Proof.Ker

open Cert.KernelIdeal Cert.KernelIdeal.Gen Idealize.ShloMosaic Idealize.ShloMosaic.TcCoe Idealize.ShloMosaic.Tactic
open Idealize.SL.Sem

variable {F : FTy → Type} [FloatOps F]

/-- The embeddings of the four groups, the codes and the table read from their buffers. -/
abbrev emR (X : Memref sig .tc .vmem S1x20x512 .i32) (f : X.view.ty.Contents (Elt F))
    (T : Memref sig .tc .vmem S10x16x1024 .f32) (t : T.view.ty.Contents (Elt F)) (g : Fin 4) : FVec F S128x160 .bf16 :=
  embG (fun l => View.readAt (Elt F) X.view (rCode g l).toLoadRect f)
    (fun p b => View.readAt (Elt F) T.view (rTab p b).toLoadRect t)

/-- The output's pieces, everything read from its buffer. -/
abbrev outR (E0 : Memref sig .tc .vmem S512x256 .bf16) (f0 : E0.view.ty.Contents (Elt F))
    (E1 : Memref sig .tc .vmem S512x256 .bf16) (f1 : E1.view.ty.Contents (Elt F))
    (W : Memref sig .tc .vmem S256x2048 .bf16) (w : W.view.ty.Contents (Elt F))
    (B : Memref sig .tc .vmem S1x2048 .f32) (b : B.view.ty.Contents (Elt F)) : List (View.Piece (Elt F) S1x1024x2048 .bf16) :=
  outL ![View.readAt (Elt F) E0.view (Rect.unit ![0, 0] S512x256.size inb_S512x256_S512x256_0_0).toLoadRect f0,
         View.readAt (Elt F) E1.view (Rect.unit ![0, 0] S512x256.size inb_S512x256_S512x256_0_0).toLoadRect f1]
    (fun n => View.readAt (Elt F) W.view (rWc n).toLoadRect w)
    (fun n => View.readAt (Elt F) B.view (rBc n).toLoadRect b)

/-- The table's pieces, the codebooks read from their buffer. -/
abbrev tabR (X : Memref sig .tc .vmem S20x8x1024 .bf16) (f : X.view.ty.Contents (Elt F)) : List (View.Piece (Elt F) S10x16x1024 .f32) :=
  tabL fun l => View.readAt (Elt F) X.view (rBook l).toLoadRect f

/-- The weights' pieces, codes and scales read from their buffers. -/
abbrev wR (X : Memref sig .tc .vmem S20x8x2048 .fp8e4m3) (f : X.view.ty.Contents (Elt F))
    (S : Memref sig .tc .vmem S20x2048 .f32) (s : S.view.ty.Contents (Elt F)) : List (View.Piece (Elt F) S256x2048 .bf16) :=
  wL (View.readAt (Elt F) S.view (Rect.unit ![0, 0] S20x2048.size inb_S20x2048_S20x2048_0_0).toLoadRect s)
    fun l => View.readAt (Elt F) X.view (rCodes l).toLoadRect f

/-- The summed biases' piece, the biases read from their buffer. -/
abbrev biasR (X : Memref sig .tc .vmem S20x2048 .f32) (f : X.view.ty.Contents (Elt F)) : List (View.Piece (Elt F) S1x2048 .f32) :=
  [⟨Rect.unit ![0, 0] S1x2048.size inb_S1x2048_S1x2048_0_0,
    biasP (View.readAt (Elt F) X.view (Rect.unit ![0, 0] S20x2048.size inb_S20x2048_S20x2048_0_0).toLoadRect f)⟩]

set_option maxHeartbeats 4000000 in
/-- What the first point writes into the table. -/
theorem runA0 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 =
      tabR arg4 (harg4.unread x3) := by
  unfold kernelRun0_A; dsimp only
  sl_unfold_run_names
  rfl

set_option maxHeartbeats 4000000 in
/-- What the first point writes into the weights. -/
theorem runA1 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.1 =
      wR arg5 (harg5.unread x4) arg6 (harg6.unread x5) := by
  unfold kernelRun0_A; dsimp only
  sl_unfold_run_names
  rfl

set_option maxHeartbeats 4000000 in
/-- What the first point writes into the summed biases. -/
theorem runA2 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.1 =
      biasR arg7 (harg7.unread x6) := by
  unfold kernelRun0_A; dsimp only
  sl_unfold_run_names
  rfl

set_option maxHeartbeats 4000000 in
/-- What the first point writes into the first embedding buffer. -/
theorem runA3 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.1 =
      embL (emR arg3 (harg3.unread x2) arg9 (arg9.view.writes (Elt F) arg9.view.junk (tabR arg4 (harg4.unread x3)))) ++ (embL (emR arg1 (harg1.unread x0) arg9 (arg9.view.writes (Elt F) arg9.view.junk (tabR arg4 (harg4.unread x3)))) ++ [zeroE]) := by
  unfold kernelRun0_A; dsimp only
  sl_unfold_run_names
  rfl

set_option maxHeartbeats 4000000 in
/-- What the first point writes into the second embedding buffer. -/
theorem runA4 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).2.2.2.2.2.1 =
      (embL (emR arg2 (harg2.unread x1) arg9 (arg9.view.writes (Elt F) arg9.view.junk (tabR arg4 (harg4.unread x3)))) ++ [zeroE]) := by
  unfold kernelRun0_A; dsimp only
  sl_unfold_run_names
  rfl

set_option maxHeartbeats 4000000 in
/-- What the first point writes into the output block. -/
theorem runA7 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) :
    (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6).1 =
      outR arg12 (arg12.view.writes (Elt F) arg12.view.junk (embL (emR arg1 (harg1.unread x0) arg9 (arg9.view.writes (Elt F) arg9.view.junk (tabR arg4 (harg4.unread x3)))) ++ [zeroE]))
        arg13 (arg13.view.writes (Elt F) arg13.view.junk (embL (emR arg2 (harg2.unread x1) arg9 (arg9.view.writes (Elt F) arg9.view.junk (tabR arg4 (harg4.unread x3)))) ++ [zeroE]))
        arg10 (arg10.view.writes (Elt F) arg10.view.junk (wR arg5 (harg5.unread x4) arg6 (harg6.unread x5)))
        arg11 (arg11.view.writes (Elt F) arg11.view.junk (biasR arg7 (harg7.unread x6))) := by
  unfold kernelRun0_A; dsimp only
  sl_unfold_run_names
  rfl

set_option maxHeartbeats 4000000 in
/-- What a later point writes into the first embedding buffer. -/
theorem runB3 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : ¬cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) (xs0 : Vec F S10x16x1024 .f32) (xs1 : Vec F S256x2048 .bf16) (xs2 : Vec F S1x2048 .f32) (xs3 : Vec F S512x256 .bf16) (xs4 : Vec F S512x256 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 xs4).2.2.2.2.1 =
      embL (emR arg3 (harg3.unread x2) arg9 (harg9.unread xs0)) := by
  unfold kernelRun0_B; dsimp only
  sl_unfold_run_names
  rfl

set_option maxHeartbeats 4000000 in
/-- What a later point writes into the second embedding buffer. -/
theorem runB4 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : ¬cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) (xs0 : Vec F S10x16x1024 .f32) (xs1 : Vec F S256x2048 .bf16) (xs2 : Vec F S1x2048 .f32) (xs3 : Vec F S512x256 .bf16) (xs4 : Vec F S512x256 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 xs4).2.2.2.2.2.1 =
      embL (emR arg2 (harg2.unread x1) arg9 (harg9.unread xs0)) := by
  unfold kernelRun0_B; dsimp only
  sl_unfold_run_names
  rfl

set_option maxHeartbeats 4000000 in
/-- What a later point writes into the output block. -/
theorem runB7 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : ¬cond0_0 i)
    (x0 : Vec F S1x20x512 .i32) (x1 : Vec F S1x20x512 .i32) (x2 : Vec F S1x20x512 .i32) (x3 : Vec F S20x8x1024 .bf16) (x4 : Vec F S20x8x2048 .fp8e4m3) (x5 : Vec F S20x2048 .f32) (x6 : Vec F S20x2048 .f32) (xs0 : Vec F S10x16x1024 .f32) (xs1 : Vec F S256x2048 .bf16) (xs2 : Vec F S1x2048 .f32) (xs3 : Vec F S512x256 .bf16) (xs4 : Vec F S512x256 .bf16) :
    (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 xs4).1 =
      outR arg12 (harg12.unread xs3)
        arg13 (arg13.view.writes (Elt F) (harg13.unread xs4) (embL (emR arg2 (harg2.unread x1) arg9 (harg9.unread xs0))))
        arg10 (harg10.unread xs1) arg11 (harg11.unread xs2) := by
  unfold kernelRun0_B; dsimp only
  sl_unfold_run_names
  rfl

end Cert.Proof.Ker

end
-- ==== Proof.Spec.lean ====
module

public import Idealize.ShloMosaic.PureOps.Ideal
public import Idealize.ShloMosaic.Lib.ValueIdx
public import Idealize.ShloMosaic.Lib.Pointwise
public import Idealize.ShloMosaic.Lib.ReduceAll

@[expose] public section

noncomputable section

open scoped BigOperators

namespace Cert.Proof.Spec

open Idealize.ShloMosaic

/-- The residual-codebook layer of contraction column `k`: eight columns to a layer. -/
abbrev layer (k : Fin 160) : Fin 20 := ⟨k.val / 8, by omega⟩
/-- The entry's component of contraction column `k`. -/
abbrev comp (k : Fin 160) : Fin 8 := ⟨k.val % 8, by omega⟩

/-- The decoded result at `(b, s, d)`: the looked-up codebook entries of the twenty layers, each through its layer's
    scaled projection codes, and the twenty biases. -/
def spec (codes : (⟨3, ![5, 20, 12288]⟩ : Shape).Idx → BitVec 32) (cb : (⟨3, ![20, 1024, 8]⟩ : Shape).Idx → EReal)
    (pc : (⟨3, ![20, 8, 2048]⟩ : Shape).Idx → EReal) (ps bias : (⟨2, ![20, 2048]⟩ : Shape).Idx → EReal)
    (b : Fin 5) (s : Fin 12288) (d : Fin 2048) : EReal :=
  (∑ k : Fin 160, cb (ix3 (layer k) ⟨(codes (ix3 b (layer k) s)).toNat % 1024, Nat.mod_lt _ (by decide)⟩ (comp k))
      * (pc (ix3 (layer k) (comp k) d) * ps (ix2 (layer k) d)))
    + ∑ l : Fin 20, bias (ix2 l d)

end Cert.Proof.Spec
-- ==== Proof.Lookup.lean ====
module

public import proofs.«01_k».proof.Proof.Pure
public import proofs.«01_k».proof.Proof.Spec
public import Mathlib.Data.Nat.Bitwise

@[expose] public section

noncomputable section

namespace Cert.Proof.Ker

open Cert.KernelIdeal Cert.KernelIdeal.Gen Idealize.ShloMosaic Idealize.ShloMosaic.TcCoe Idealize.ShloMosaic.Tactic
open Idealize.SL.Sem

/-- A word's bit, as the program tests it. -/
theorem and_pow_eq_zero (c : BitVec 32) (k : ℕ) (hk : k < 32) :
    (c &&& BitVec.ofNat 32 (2 ^ k) = 0#32) ↔ c.toNat / 2 ^ k % 2 = 0 := by
  have h2 : 2 ^ k < 2 ^ 32 := Nat.pow_lt_pow_right (by omega) hk
  rw [← BitVec.toNat_inj, BitVec.toNat_and, BitVec.toNat_ofNat, Nat.mod_eq_of_lt h2, Nat.and_two_pow,
    Nat.testBit_eq_decide_div_mod_eq]
  have hp : 0 < 2 ^ k := Nat.two_pow_pos k
  have := Nat.mod_lt (c.toNat / 2 ^ k) (y := 2) (by omega)
  by_cases h : c.toNat / 2 ^ k % 2 = 1
  · simp [h]
  · have h0 : c.toNat / 2 ^ k % 2 = 0 := by omega
    simp [h0]

theorem codeOf_apply (lo hi : Vec Ideal S1x1x128 .i32) (r : Fin 16) (j : Fin 128) :
    codeOf (F := Ideal) lo hi (ix2 r j) = if r.val < 8 then lo (ix3 0 0 j) else hi (ix3 0 0 j) := by
  unfold codeOf spread
  pointwise
  have hr := r.isLt
  have h : (BitVec.ofNat 32 r.val).slt 8#32 = decide (r.val < 8) := by
    interval_cases r.val <;> rfl
  show Scalar.select (BitVec.ofBool ((BitVec.ofNat 32 r.val).slt 8#32)) _ _ = _
  rw [h]
  by_cases h8 : r.val < 8
  · rw [if_pos h8, decide_eq_true h8]; exact ValueIdx.select_one _ _
  · rw [if_neg h8, decide_eq_false h8]; exact ValueIdx.select_zero _ _

theorem gat_apply (code : IVec S16x128 32) (t : Vec Ideal S1x16x128 .f32) (r : Fin 16) (j : Fin 128) :
    gat (F := Ideal) code t (ix2 r j)
      = t (ix3 0 r ⟨(code (ix2 r j)).toNat % 128, Nat.mod_lt _ (by decide)⟩) := by
  unfold gat laneOf
  pointwise
  refine congrArg t (congrArg (ix3 0 r) (Fin.ext ?_))
  show (code (ix2 r j) &&& 127#32).toNat % 128 = (code (ix2 r j)).toNat % 128
  rw [BitVec.toNat_and, show (127#32).toNat = 2 ^ 7 - 1 from rfl, Nat.and_two_pow_sub_one_eq_mod]
  exact Nat.mod_mod _ _

theorem bitOf_apply (k : BitVec 32) (code : IVec S16x128 32) (i : S16x128.Idx) :
    bitOf k code i = if code i &&& k = 0#32 then 0#1 else 1#1 := by
  unfold bitOf
  pointwise
  show BitVec.ofBool (code i &&& k != 0#32) = _
  by_cases h : code i &&& k = 0#32
  · rw [if_pos h, h]; rfl
  · rw [if_neg h, bne_iff_ne.mpr h]; rfl

/-- The choice among eight values by the bits 9, 8 and 7. -/
theorem pick8 {α : Type} (c : BitVec 32) (t : Fin 8 → α) :
    (if c &&& 512#32 = 0#32 then
      (if c &&& 256#32 = 0#32 then (if c &&& 128#32 = 0#32 then t 0 else t 1) else (if c &&& 128#32 = 0#32 then t 2 else t 3))
     else
      (if c &&& 256#32 = 0#32 then (if c &&& 128#32 = 0#32 then t 4 else t 5) else (if c &&& 128#32 = 0#32 then t 6 else t 7)))
      = t ⟨c.toNat % 1024 / 128, by omega⟩ := by
  have h9 := and_pow_eq_zero c 9 (by omega)
  have h8 := and_pow_eq_zero c 8 (by omega)
  have h7 := and_pow_eq_zero c 7 (by omega)
  simp only [show (2 : ℕ) ^ 9 = 512 from rfl, show (2 : ℕ) ^ 8 = 256 from rfl, show (2 : ℕ) ^ 7 = 128 from rfl,
    show BitVec.ofNat 32 512 = 512#32 from rfl, show BitVec.ofNat 32 256 = 256#32 from rfl,
    show BitVec.ofNat 32 128 = 128#32 from rfl] at h9 h8 h7
  simp only [h9, h8, h7]
  split_ifs <;> exact congrArg t (Fin.ext (by simp only []; omega))

theorem pick_apply (code : IVec S16x128 32) (a : Fin 8 → FVec Ideal S16x128 .f32) (i : S16x128.Idx) :
    truncf .bf16
      (select (bitOf 512#32 code)
        (select (bitOf 256#32 code)
          (select (bitOf 128#32 code) (a 7) (a 6))
          (select (bitOf 128#32 code) (a 5) (a 4)))
        (select (bitOf 256#32 code)
          (select (bitOf 128#32 code) (a 3) (a 2))
          (select (bitOf 128#32 code) (a 1) (a 0)))) bitsLt_bf16_f32 i
      = a ⟨(code i).toNat % 1024 / 128, by omega⟩ i := by
  rw [← pick8 (code i) a]
  pointwise
  simp only [bitOf_apply]
  have hs (c : Prop) [Decidable c] (x y : Ideal .f32) :
      Scalar.select (if c then 0#1 else 1#1) x y = if c then y else x := by
    split_ifs
    · exact ValueIdx.select_zero _ _
    · exact ValueIdx.select_one _ _
  simp only [hs]
  split_ifs <;> rfl

theorem pairRow_apply (lo hi : Vec Ideal S1x1x128 .i32) (t : Fin 8 → Vec Ideal S1x16x128 .f32) (r : Fin 16) (j : Fin 128) :
    pairRow (F := Ideal) lo hi t (ix2 r j)
      = t ⟨(codeOf (F := Ideal) lo hi (ix2 r j)).toNat % 1024 / 128, by omega⟩
          (ix3 0 r ⟨(codeOf (F := Ideal) lo hi (ix2 r j)).toNat % 128, Nat.mod_lt _ (by decide)⟩) := by
  unfold pairRow
  refine (pick_apply (codeOf (F := Ideal) lo hi) (fun b => gat (F := Ideal) (codeOf (F := Ideal) lo hi) (t b)) (ix2 r j)).trans ?_
  exact gat_apply _ _ _ _

end Cert.Proof.Ker

end
-- ==== Proof.Vals.lean ====
module

public import proofs.«01_k».proof.Proof.Lookup

@[expose] public section

noncomputable section

namespace Cert.Proof.Ker

open Cert.KernelIdeal Cert.KernelIdeal.Gen Idealize.ShloMosaic Idealize.ShloMosaic.TcCoe Idealize.ShloMosaic.Tactic
open Idealize.SL.Sem Cert.Proof.Spec
open scoped BigOperators

/-- The pair of levels of a column. -/
abbrev pairOf (k : Fin 160) : Fin 10 := ⟨k.val / 16, by have := k.isLt; omega⟩

/-- The row of a column within its pair of levels. -/
abbrev rowOf (k : Fin 160) : Fin 16 := ⟨k.val % 16, Nat.mod_lt _ (by decide)⟩

/-- A group's embeddings at a token and a column: the entry of the column's level at the token's code. -/
theorem embG_apply (x : Fin 20 → Vec Ideal S1x1x128 .i32) (t : Fin 10 → Fin 8 → Vec Ideal S1x16x128 .f32)
    (i : Fin 128) (k : Fin 160) :
    embG (F := Ideal) x t (ix2 i k)
      = t (pairOf k) ⟨(x (layer k) (ix3 0 0 i) : BitVec 32).toNat % 1024 / 128, by omega⟩
          (ix3 0 (rowOf k) ⟨(x (layer k) (ix3 0 0 i) : BitVec 32).toNat % 128, Nat.mod_lt _ (by decide)⟩) := by
  unfold embG
  rw [shapeCast_apply _ _ _ (ix2 i k) rfl,
    transpose_apply _ _ _ _ (ix2 k i) (fun b => by match b with | ⟨0, _⟩ => rfl | ⟨1, _⟩ => rfl)]
  have h := concatenate_ofFn_apply (t := S160x128) (s₁ := S16x128) (0 : Fin 2)
    (fun p : Fin 10 => pairRow (F := Ideal) (x (evenOf p)) (x (oddOf p)) (t p))
    concatenates_S16x128_S16x128_S16x128_S16x128_S16x128_S16x128_S16x128_S16x128_S16x128_S16x128_S160x128_d0
    rfl 16 rfl (ix2 k i) (pairOf k) rfl (ix2 (rowOf k) i) rfl
    (fun b hb => by match b, hb with | ⟨0, _⟩, hb => exact absurd rfl hb | ⟨1, _⟩, _ => rfl)
  refine Eq.trans h ?_
  rw [pairRow_apply]
  have hc : codeOf (F := Ideal) (x (evenOf (pairOf k))) (x (oddOf (pairOf k))) (ix2 (rowOf k) i)
      = x (layer k) (ix3 0 0 i) := by
    rw [codeOf_apply]
    split_ifs with h8
    · exact congrArg (fun l => x l (ix3 0 0 i)) (Fin.ext (show 2 * (k.val / 16) = k.val / 8 by
        have : k.val % 16 < 8 := h8; omega))
    · exact congrArg (fun l => x l (ix3 0 0 i)) (Fin.ext (show 2 * (k.val / 16) + 1 = k.val / 8 by
        have : ¬ k.val % 16 < 8 := h8; omega))
  simp only [hc]

/-- A pair of levels' entries in the table. -/
theorem tabP_apply (a b : Vec Ideal S1x8x1024 .bf16) (r : Fin 16) (j : Fin 1024) :
    tabP (F := Ideal) a b (ix3 0 r j)
      = if r.val < 8 then a (ix3 0 ⟨r.val % 8, Nat.mod_lt _ (by decide)⟩ j)
        else b (ix3 0 ⟨r.val % 8, Nat.mod_lt _ (by decide)⟩ j) := by
  have hr := r.isLt
  unfold tabP
  rw [shapeCast_apply _ _ _ (ix2 r j) (by
    rw [Shape.rowMajor_val_three, Shape.rowMajor_val_two]
    show r.val * 1024 + j.val = (0 * 16 + r.val) * 1024 + j.val
    omega)]
  show concatenate S16x1024 0
    [⟨S8x1024, shapeCast S8x1024 a shapeCasts_S1x8x1024_S8x1024⟩, ⟨S8x1024, shapeCast S8x1024 b shapeCasts_S1x8x1024_S8x1024⟩]
    concatenates_S8x1024_S8x1024_S16x1024_d0 (ix2 r j) = _
  split_ifs with h8
  · refine (concatenate_apply_piece (t := S16x1024) (0 : Fin 2) _ _ (ix2 r j) 0 (by simp) S8x1024 _ rfl rfl 0 rfl
      (ix2 ⟨r.val % 8, Nat.mod_lt _ (by decide)⟩ j)
      (fun b hb => by match b, hb with | ⟨0, _⟩, hb => exact absurd rfl hb | ⟨1, _⟩, _ => rfl)
      (show 0 + r.val % 8 = r.val by omega)).trans ?_
    pointwise
  · refine (concatenate_apply_piece (t := S16x1024) (0 : Fin 2) _ _ (ix2 r j) 1 (by simp) S8x1024 _ rfl rfl 8 rfl
      (ix2 ⟨r.val % 8, Nat.mod_lt _ (by decide)⟩ j)
      (fun b hb => by match b, hb with | ⟨0, _⟩, hb => exact absurd rfl hb | ⟨1, _⟩, _ => rfl)
      (show 8 + r.val % 8 = r.val by omega)).trans ?_
    pointwise

/-- A level's weights: its codes times its scales. -/
theorem wP_apply (l : Fin 20) (s : Vec Ideal S20x2048 .f32) (x : Vec Ideal S1x8x2048 .fp8e4m3) (a : Fin 8) (d : Fin 2048) :
    wP (F := Ideal) l s x (ix2 a d) = (x (ix3 0 a d) : EReal) * (s (ix2 l d) : EReal) := by
  unfold wP
  pointwise

/-- The sum of the biases of the levels. -/
theorem biasP_apply (x : Vec Ideal S20x2048 .f32) (d : Fin 2048) :
    biasP (F := Ideal) x (ix2 0 d) = ∑ l : Fin 20, (x (ix2 l d) : EReal) := by
  unfold biasP
  pointwise

/-- A tile of the output. -/
theorem outP_apply (e : Vec Ideal S512x256 .bf16) (w : Vec Ideal S256x256 .bf16) (s : Vec Ideal S1x256 .f32) (i : Fin 512) (j : Fin 256) :
    outP (F := Ideal) e w s (ix3 0 i j)
      = (∑ q : Fin 256, (e (ix2 i q) : EReal) * (w (ix2 q j) : EReal)) + (s (ix2 0 j) : EReal) := by
  unfold outP
  pointwise

/-- The bit pattern of zero means zero. -/
theorem zero_bf16 : (Scalar.ofBits (F := Ideal) .bf16 0x0000#16 : EReal) = 0 := by
  pointwise

end Cert.Proof.Ker

end
-- ==== Proof.Over.lean ====
module

public import proofs.«01_k».proof.Proof.Vals

@[expose] public section

set_option maxRecDepth 8192

noncomputable section

namespace Cert.Proof.Ker

open Cert.KernelIdeal Cert.KernelIdeal.Gen Idealize.ShloMosaic Idealize.ShloMosaic.TcCoe Idealize.ShloMosaic.Tactic
open Idealize.SL.Sem Cert.Proof.Spec
open scoped BigOperators

/-- Writes whose pieces all agree with one array leave that array wherever a piece lies. -/
theorem read_writes_agree {sig : RefSig} {κ : Kind} {sp : Space} {S : Shape} {e : EltTy} (v : View sig κ sp S e)
    (f : v.ty.Contents (Elt Ideal)) (G : S.Idx → Elt Ideal e) (L : List (View.Piece (Elt Ideal) S e))
    (hL : ∀ p ∈ L, ∀ x : p.1.shape.Idx, p.2 x = G (p.1.emb x)) (y : S.Idx) (hy : ∃ p ∈ L, y ∈ p.1.set) :
    v.read (Elt Ideal) (v.writes (Elt Ideal) f L) y = G y :=
  (View.read_writes_apply_eq_canon v f y L hy).trans (View.canon_apply_of_pieces G L hL y hy)

/-- An embedding buffer after four groups' embeddings were written over old contents. -/
theorem read_embL {sig : RefSig} {κ : Kind} {sp : Space} (v : View sig κ sp S512x256 .bf16)
    (f : v.ty.Contents (Elt Ideal)) (e : Fin 4 → FVec Ideal S128x160 .bf16) (G : Fin 512 → Fin 160 → EReal)
    (hG : ∀ (g : Fin 4) (i : Fin 128) (k : Fin 160), e g (ix2 i k) = G ⟨128 * g.val + i.val, by have := g.isLt; have := i.isLt; omega⟩ k)
    (s : Fin 512) (k : Fin 256) :
    v.read (Elt Ideal) (v.writes (Elt Ideal) f (embL (F := Ideal) e)) (ix2 s k)
      = if h : k.val < 160 then G s ⟨k.val, h⟩ else v.read (Elt Ideal) f (ix2 s k) := by
  have hmem : ∀ p ∈ embL (F := Ideal) e, ∃ g : Fin 4, p = ⟨rEmb g, e g⟩ := by
    intro p hp
    simp only [embL, List.mem_cons, List.not_mem_nil, or_false] at hp
    rcases hp with rfl | rfl | rfl | rfl
    exacts [⟨3, rfl⟩, ⟨2, rfl⟩, ⟨1, rfl⟩, ⟨0, rfl⟩]
  have hin : ∀ g : Fin 4, (⟨rEmb g, e g⟩ : View.Piece (Elt Ideal) S512x256 .bf16) ∈ embL (F := Ideal) e := by
    intro g
    fin_cases g <;> simp [embL]
  split_ifs with h
  · refine (read_writes_agree v f (fun y => if h : (y 1).val < 160 then G (y 0) ⟨(y 1).val, h⟩ else 0) _ ?_ _ ?_).trans ?_
    · intro p hp x
      obtain ⟨g, rfl⟩ := hmem p hp
      have hx : x = ix2 (n0 := 128) (n1 := 160) (x 0) (x 1) := ValueIdx.eq_ix2 x
      have h1 : (((rEmb g).emb x) 1).val = (x 1).val := (Nat.zero_add _).trans (Nat.one_mul _)
      have h0 : (((rEmb g).emb x) 0).val = 128 * g.val + (x 0).val := congrArg (128 * g.val + ·) (Nat.one_mul _)
      have hlt : (((rEmb g).emb x) 1).val < 160 := by rw [h1]; exact (x 1).isLt
      refine (congrArg (e g) hx).trans ((hG g (x 0) (x 1)).trans (Eq.trans ?_ (dif_pos hlt).symm))
      exact congrArg₂ G (Fin.ext h0.symm) (Fin.ext h1.symm)
    · refine ⟨_, hin ⟨s.val / 128, by have := s.isLt; omega⟩, (Rect.mem_set_unit (inb := inb_emb _)).mpr fun a => ?_⟩
      match a with
      | ⟨0, _⟩ => show 128 * (s.val / 128) ≤ s.val ∧ s.val < 128 * (s.val / 128) + 128; omega
      | ⟨1, _⟩ => show 0 ≤ k.val ∧ k.val < 0 + 160; omega
    · exact dif_pos h
  · refine View.read_writes_apply_of_forall_not_mem v f _ _ fun p hp hy => ?_
    obtain ⟨g, rfl⟩ := hmem p hp
    have := (Rect.mem_set_unit (inb := inb_emb g)).mp hy (1 : Fin 2)
    have h2 : k.val < 0 + 160 := this.2
    omega

/-- An embedding buffer after its columns from 128 on were cleared: those columns are zero. -/
theorem read_zeroE {sig : RefSig} {κ : Kind} {sp : Space} (v : View sig κ sp S512x256 .bf16)
    (f : v.ty.Contents (Elt Ideal)) (s : Fin 512) (k : Fin 256) (hk : 128 ≤ k.val) :
    v.read (Elt Ideal) (v.writes (Elt Ideal) f [zeroE (F := Ideal)]) (ix2 s k) = (0 : EReal) := by
  refine read_writes_agree v f (fun _ => (0 : EReal)) _ ?_ _ ?_
  · intro p hp x
    obtain rfl := List.mem_singleton.mp hp
    exact zero_bf16
  · refine ⟨_, List.mem_singleton.mpr rfl, (Rect.mem_set_unit (inb := inb_S512x256_S512x128_0_128)).mpr fun a => ?_⟩
    match a with
    | ⟨0, _⟩ => show 0 ≤ s.val ∧ s.val < 0 + 512; omega
    | ⟨1, _⟩ => show 128 ≤ k.val ∧ k.val < 128 + 128; omega

/-- The table: row `r` of pair `p` is component `r mod 8` of level `2 p + r / 8`. -/
def tabV (x : Vec Ideal S20x8x1024 .bf16) (p : Fin 10) (r : Fin 16) (j : Fin 1024) : EReal :=
  x (ix3 ⟨2 * p.val + r.val / 8, by have := p.isLt; have := r.isLt; omega⟩ ⟨r.val % 8, Nat.mod_lt _ (by decide)⟩ j)

theorem read_tabL {sig : RefSig} {κ : Kind} {sp : Space} (v : View sig κ sp S10x16x1024 .f32)
    (f : v.ty.Contents (Elt Ideal)) (x : Vec Ideal S20x8x1024 .bf16) (p : Fin 10) (r : Fin 16) (j : Fin 1024) :
    v.read (Elt Ideal) (v.writes (Elt Ideal) f (tabL (F := Ideal) fun l => View.ld x (rBook l))) (ix3 p r j) = tabV x p r j := by
  refine read_writes_agree v f (fun y => tabV x (y 0) (y 1) (y 2)) _ ?_ _ ?_
  · intro q hq z
    obtain ⟨p, -, rfl⟩ := List.mem_map.mp hq
    have hz : z = ix3 (n0 := 1) (n1 := 16) (n2 := 1024) 0 (z 1) (z 2) := by
      refine (ValueIdx.eq_ix3 z).trans (congrArg (fun a => ix3 (n0 := 1) (n1 := 16) (n2 := 1024) a (z 1) (z 2)) ?_)
      exact Subsingleton.elim (α := Fin 1) _ _
    have e0 : ((rPair p).emb z) 0 = p := Fin.ext (by
      show p.val + 1 * (z 0).val = p.val
      have : (z 0).val < 1 := (z 0).isLt
      omega)
    have e1 : ((rPair p).emb z) 1 = z 1 := Fin.ext (by show 0 + 1 * (z 1).val = (z 1).val; omega)
    have e2 : ((rPair p).emb z) 2 = z 2 := Fin.ext (by show 0 + 1 * (z 2).val = (z 2).val; omega)
    show tabP (F := Ideal) _ _ z = tabV x (((rPair p).emb z) 0) (((rPair p).emb z) 1) (((rPair p).emb z) 2)
    rw [e0, e1, e2]
    refine (congrArg (tabP (F := Ideal) (View.ld x (rBook (evenOf p))) (View.ld x (rBook (oddOf p)))) hz).trans
      ((tabP_apply _ _ (z 1) (z 2)).trans ?_)
    have hr : (z 1).val < 16 := (z 1).isLt
    split_ifs with h8
    · refine congrArg x (funext fun a => Fin.ext ?_)
      match a with
      | ⟨0, _⟩ => show 2 * p.val + 1 * 0 = 2 * p.val + (z 1).val / 8; omega
      | ⟨1, _⟩ => show 0 + 1 * ((z 1).val % 8) = (z 1).val % 8; omega
      | ⟨2, _⟩ => show 0 + 1 * (z 2).val = (z 2).val; omega
    · refine congrArg x (funext fun a => Fin.ext ?_)
      match a with
      | ⟨0, _⟩ => show 2 * p.val + 1 + 1 * 0 = 2 * p.val + (z 1).val / 8; omega
      | ⟨1, _⟩ => show 0 + 1 * ((z 1).val % 8) = (z 1).val % 8; omega
      | ⟨2, _⟩ => show 0 + 1 * (z 2).val = (z 2).val; omega
  · refine ⟨_, List.mem_map.mpr ⟨p, by fin_cases p <;> simp, rfl⟩, (Rect.mem_set_unit (inb := inb_pair _)).mpr fun a => ?_⟩
    match a with
    | ⟨0, _⟩ => show p.val ≤ p.val ∧ p.val < p.val + 1; omega
    | ⟨1, _⟩ => show 0 ≤ r.val ∧ r.val < 0 + 16; omega
    | ⟨2, _⟩ => show 0 ≤ j.val ∧ j.val < 0 + 1024; omega

/-- The weights: row `q` is component `q mod 8` of level `q / 8`, codes times scales; the rows from 160 on are zero. -/
def wV (x : Vec Ideal S20x8x2048 .fp8e4m3) (s : Vec Ideal S20x2048 .f32) (q : Fin 256) (d : Fin 2048) : EReal :=
  if h : q.val < 160 then
    (x (ix3 (layer ⟨q.val, h⟩) (comp ⟨q.val, h⟩) d) : EReal) * (s (ix2 (layer ⟨q.val, h⟩) d) : EReal)
  else 0

theorem read_wL {sig : RefSig} {κ : Kind} {sp : Space} (v : View sig κ sp S256x2048 .bf16)
    (f : v.ty.Contents (Elt Ideal)) (x : Vec Ideal S20x8x2048 .fp8e4m3) (s : Vec Ideal S20x2048 .f32) (q : Fin 256) (d : Fin 2048) :
    v.read (Elt Ideal) (v.writes (Elt Ideal) f (wL (F := Ideal) s fun l => View.ld x (rCodes l))) (ix2 q d) = wV x s q d := by
  refine read_writes_agree v f (fun y => wV x s (y 0) (y 1)) _ ?_ _ ?_
  · intro P hP z
    rcases List.mem_cons.mp hP with rfl | hP
    · refine (zero_bf16).trans (Eq.symm (dif_neg (not_lt.mpr ?_)))
      show 160 ≤ 160 + 1 * (z 0).val
      omega
    · obtain ⟨l, -, rfl⟩ := List.mem_map.mp hP
      have hl := l.isLt
      have hz : z = ix2 (n0 := 8) (n1 := 2048) (z 0) (z 1) := ValueIdx.eq_ix2 z
      have hz0 : (z 0).val < 8 := (z 0).isLt
      have e0 : (((rW l).emb z) 0).val = 8 * l.val + (z 0).val := by
        show 8 * l.val + 1 * (z 0).val = 8 * l.val + (z 0).val; omega
      have e1 : ((rW l).emb z) 1 = z 1 := Fin.ext (by show 0 + 1 * (z 1).val = (z 1).val; omega)
      have hlt : (((rW l).emb z) 0).val < 160 := by rw [e0]; omega
      have e0' : ((rW l).emb z) 0 = (⟨8 * l.val + (z 0).val, by omega⟩ : Fin 256) := Fin.ext e0
      show wP (F := Ideal) l s _ z = wV x s (((rW l).emb z) 0) (((rW l).emb z) 1)
      rw [e0', e1]
      refine (congrArg (wP (F := Ideal) l s (View.ld x (rCodes l))) hz).trans ((wP_apply l s _ (z 0) (z 1)).trans ?_)
      unfold wV
      rw [dif_pos (show 8 * l.val + (z 0).val < 160 by omega)]
      refine congrArg₂ (fun a b : EReal => a * b) (congrArg x (funext fun a => Fin.ext ?_)) (congrArg s (funext fun a => Fin.ext ?_))
      · match a with
        | ⟨0, _⟩ => show l.val + 1 * 0 = (8 * l.val + (z 0).val) / 8; omega
        | ⟨1, _⟩ => show 0 + 1 * (z 0).val = (8 * l.val + (z 0).val) % 8; omega
        | ⟨2, _⟩ => show 0 + 1 * (z 1).val = (z 1).val; omega
      · match a with
        | ⟨0, _⟩ => show l.val = (8 * l.val + (z 0).val) / 8; omega
        | ⟨1, _⟩ => rfl
  · by_cases h : q.val < 160
    · have hl : q.val / 8 < 20 := by omega
      refine ⟨_, List.mem_cons_of_mem _ (List.mem_map.mpr ⟨⟨q.val / 8, hl⟩, ?_, rfl⟩), (Rect.mem_set_unit (inb := inb_w _)).mpr fun a => ?_⟩
      · generalize (⟨q.val / 8, hl⟩ : Fin 20) = l
        fin_cases l <;> simp
      · match a with
        | ⟨0, _⟩ => show 8 * (q.val / 8) ≤ q.val ∧ q.val < 8 * (q.val / 8) + 8; omega
        | ⟨1, _⟩ => show 0 ≤ d.val ∧ d.val < 0 + 2048; omega
    · refine ⟨_, List.mem_cons_self, (Rect.mem_set_unit (inb := inb_S256x2048_S96x2048_160_0)).mpr fun a => ?_⟩
      have := q.isLt
      match a with
      | ⟨0, _⟩ => show 160 ≤ q.val ∧ q.val < 160 + 96; omega
      | ⟨1, _⟩ => show 0 ≤ d.val ∧ d.val < 0 + 2048; omega

/-- The summed biases. -/
theorem read_biasL {sig : RefSig} {κ : Kind} {sp : Space} (v : View sig κ sp S1x2048 .f32)
    (f : v.ty.Contents (Elt Ideal)) (x : Vec Ideal S20x2048 .f32) (d : Fin 2048) :
    v.read (Elt Ideal) (v.writes (Elt Ideal) f
      [⟨Rect.unit ![0, 0] S1x2048.size inb_S1x2048_S1x2048_0_0, biasP (F := Ideal) x⟩]) (ix2 0 d)
      = ∑ l : Fin 20, (x (ix2 l d) : EReal) := by
  refine read_writes_agree v f (fun y => ∑ l : Fin 20, (x (ix2 l (y 1)) : EReal)) _ ?_ _ ?_
  · intro p hp z
    obtain rfl := List.mem_singleton.mp hp
    have hz : z = ix2 (n0 := 1) (n1 := 2048) 0 (z 1) := by
      refine (ValueIdx.eq_ix2 z).trans (congrArg (fun a => ix2 (n0 := 1) (n1 := 2048) a (z 1)) ?_)
      exact Subsingleton.elim (α := Fin 1) _ _
    have e1 : ((Rect.unit (s := S1x2048) ![0, 0] S1x2048.size inb_S1x2048_S1x2048_0_0).emb z) 1 = z 1 :=
      Fin.ext (by show 0 + 1 * (z 1).val = (z 1).val; omega)
    show biasP (F := Ideal) x z = ∑ l : Fin 20, (x (ix2 l (((Rect.unit (s := S1x2048) ![0, 0] S1x2048.size inb_S1x2048_S1x2048_0_0).emb z) 1)) : EReal)
    rw [e1]
    exact (congrArg (biasP (F := Ideal) x) hz).trans (biasP_apply x (z 1))
  · refine ⟨_, List.mem_singleton.mpr rfl, (Rect.mem_set_unit (inb := inb_S1x2048_S1x2048_0_0)).mpr fun a => ?_⟩
    match a with
    | ⟨0, _⟩ => show 0 ≤ 0 ∧ 0 < 0 + 1; omega
    | ⟨1, _⟩ => show 0 ≤ d.val ∧ d.val < 0 + 2048; omega

/-- The output block: row `r` is token `r mod 512` of phase `r / 512`. -/
theorem read_outL {sig : RefSig} {κ : Kind} {sp : Space} (v : View sig κ sp S1x1024x2048 .bf16)
    (f : v.ty.Contents (Elt Ideal)) (e : Fin 2 → Vec Ideal S512x256 .bf16) (w : Vec Ideal S256x2048 .bf16) (b : Vec Ideal S1x2048 .f32)
    (r : Fin 1024) (d : Fin 2048) :
    v.read (Elt Ideal) (v.writes (Elt Ideal) f
      (outL (F := Ideal) e (fun n => View.ld w (rWc n)) (fun n => View.ld b (rBc n)))) (ix3 0 r d)
      = (∑ q : Fin 256, (e ⟨r.val / 512, by have := r.isLt; omega⟩ (ix2 ⟨r.val % 512, Nat.mod_lt _ (by decide)⟩ q) : EReal) * (w (ix2 q d) : EReal))
        + (b (ix2 0 d) : EReal) := by
  refine read_writes_agree v f (fun y => (∑ q : Fin 256, (e ⟨(y 1).val / 512, by have : (y 1).val < 1024 := (y 1).isLt; omega⟩ (ix2 ⟨(y 1).val % 512, Nat.mod_lt _ (by decide)⟩ q) : EReal) * (w (ix2 q (y 2)) : EReal))
        + (b (ix2 0 (y 2)) : EReal)) _ ?_ _ ?_
  · intro P hP z
    obtain ⟨⟨h, n⟩, -, rfl⟩ := List.mem_map.mp hP
    have hz : z = ix3 (n0 := 1) (n1 := 512) (n2 := 256) 0 (z 1) (z 2) := by
      refine (ValueIdx.eq_ix3 z).trans (congrArg (fun a => ix3 (n0 := 1) (n1 := 512) (n2 := 256) a (z 1) (z 2)) ?_)
      exact Subsingleton.elim (α := Fin 1) _ _
    have hz1 : (z 1).val < 512 := (z 1).isLt
    have hz2 : (z 2).val < 256 := (z 2).isLt
    have hh := h.isLt
    have hn := n.isLt
    have e1 : (((rOut h n).emb z) 1).val = 512 * h.val + (z 1).val := by
      show 512 * h.val + 1 * (z 1).val = 512 * h.val + (z 1).val; omega
    have e2 : (((rOut h n).emb z) 2).val = 256 * n.val + (z 2).val := by
      show 256 * n.val + 1 * (z 2).val = 256 * n.val + (z 2).val; omega
    have a1 : (⟨(((rOut h n).emb z) 1).val / 512, by rw [e1]; omega⟩ : Fin 2) = h := Fin.ext (by
      show (((rOut h n).emb z) 1).val / 512 = h.val; rw [e1]; omega)
    have a2 : (⟨(((rOut h n).emb z) 1).val % 512, Nat.mod_lt _ (by decide)⟩ : Fin 512) = z 1 := Fin.ext (by
      show (((rOut h n).emb z) 1).val % 512 = (z 1).val; rw [e1]; omega)
    show outP (F := Ideal) (e h) (View.ld w (rWc n)) (View.ld b (rBc n)) z
      = (∑ q : Fin 256, (e ⟨(((rOut h n).emb z) 1).val / 512, _⟩ (ix2 ⟨(((rOut h n).emb z) 1).val % 512, _⟩ q) : EReal) * (w (ix2 q (((rOut h n).emb z) 2)) : EReal))
        + (b (ix2 0 (((rOut h n).emb z) 2)) : EReal)
    rw [a1, a2]
    refine (congrArg (outP (F := Ideal) (e h) (View.ld w (rWc n)) (View.ld b (rBc n))) hz).trans ((outP_apply _ _ _ (z 1) (z 2)).trans ?_)
    refine congrArg₂ (fun x y : EReal => x + y) (Finset.sum_congr rfl fun q _ => ?_) (congrArg b (funext fun a => Fin.ext ?_))
    · refine congrArg (fun y : EReal => (e h (ix2 (z 1) q) : EReal) * y) (congrArg w (funext fun a => Fin.ext ?_))
      match a with
      | ⟨0, _⟩ => show 0 + 1 * q.val = q.val; omega
      | ⟨1, _⟩ => show 256 * n.val + 1 * (z 2).val = (((rOut h n).emb z) 2).val; rw [e2]; omega
    · match a with
      | ⟨0, _⟩ => rfl
      | ⟨1, _⟩ => show 256 * n.val + 1 * (z 2).val = (((rOut h n).emb z) 2).val; rw [e2]; omega
  · have hr := r.isLt
    have hd := d.isLt
    refine ⟨_, List.mem_map.mpr ⟨(⟨r.val / 512, by omega⟩, ⟨d.val / 256, by omega⟩), ?_, rfl⟩, (Rect.mem_set_unit (inb := inb_out _ _)).mpr fun a => ?_⟩
    · generalize (⟨r.val / 512, by omega⟩ : Fin 2) = h
      generalize (⟨d.val / 256, by omega⟩ : Fin 8) = n
      fin_cases h <;> fin_cases n <;> simp
    · match a with
      | ⟨0, _⟩ => show 0 ≤ 0 ∧ 0 < 0 + 1; omega
      | ⟨1, _⟩ => show 512 * (r.val / 512) ≤ r.val ∧ r.val < 512 * (r.val / 512) + 512; omega
      | ⟨2, _⟩ => show 256 * (d.val / 256) ≤ d.val ∧ d.val < 256 * (d.val / 256) + 256; omega

end Cert.Proof.Ker

end
-- ==== Proof.Cases.lean ====
module

public import proofs.«01_k».proof.Proof.Runs
public import proofs.«01_k».proof.Proof.Over

@[expose] public section

set_option maxRecDepth 8192

noncomputable section

namespace Cert.Proof.Ker

open Cert.KernelIdeal Cert.KernelIdeal.Gen Idealize.ShloMosaic Idealize.ShloMosaic.TcCoe Idealize.ShloMosaic.Tactic
open Idealize.SL.Sem Cert.Proof.Spec
open scoped BigOperators

/-- The embedding of a token at a column, looked up in a table. -/
def eV (x : Vec Ideal S1x20x512 .i32) (T : Fin 10 → Fin 16 → Fin 1024 → EReal) (s : Fin 512) (k : Fin 160) : EReal :=
  T (pairOf k) (rowOf k) ⟨(x (ix3 0 (layer k) s) : BitVec 32).toNat % 1024, Nat.mod_lt _ (by decide)⟩

/-- A group's embeddings, codes and table read from their buffers. -/
theorem emR_apply (X : Memref sig .tc .vmem S1x20x512 .i32) (f : X.view.ty.Contents (Elt Ideal))
    (T : Memref sig .tc .vmem S10x16x1024 .f32) (t : T.view.ty.Contents (Elt Ideal)) (g : Fin 4) (i : Fin 128) (k : Fin 160) :
    emR (F := Ideal) X f T t g (ix2 i k)
      = eV (X.view.read (Elt Ideal) f) (fun p r j => T.view.read (Elt Ideal) t (ix3 p r j))
          ⟨128 * g.val + i.val, by have := g.isLt; have := i.isLt; omega⟩ k := by
  refine (embG_apply _ _ i k).trans ?_
  have hx : View.readAt (Elt Ideal) X.view (rCode g (layer k)).toLoadRect f (ix3 0 0 i)
      = X.view.read (Elt Ideal) f (ix3 0 (layer k) ⟨128 * g.val + i.val, by have := g.isLt; have := i.isLt; omega⟩) := by
    refine congrArg (X.view.read (Elt Ideal) f) (funext fun a => Fin.ext ?_)
    match a with
    | ⟨0, _⟩ => rfl
    | ⟨1, _⟩ => show (layer k).val + 1 * 0 = (layer k).val; omega
    | ⟨2, _⟩ => show 128 * g.val + 1 * i.val = 128 * g.val + i.val; omega
  have key : ∀ n : BitVec 32,
      View.readAt (Elt Ideal) T.view (rTab (pairOf k) ⟨n.toNat % 1024 / 128, by omega⟩).toLoadRect t
          (ix3 0 (rowOf k) ⟨n.toNat % 128, Nat.mod_lt _ (by decide)⟩)
        = T.view.read (Elt Ideal) t (ix3 (pairOf k) (rowOf k) ⟨n.toNat % 1024, Nat.mod_lt _ (by decide)⟩) := by
    intro n
    refine congrArg (T.view.read (Elt Ideal) t) (funext fun a => Fin.ext ?_)
    match a with
    | ⟨0, _⟩ => show (pairOf k).val + 1 * 0 = (pairOf k).val; omega
    | ⟨1, _⟩ => show 0 + 1 * (rowOf k).val = (rowOf k).val; omega
    | ⟨2, _⟩ => show 128 * (n.toNat % 1024 / 128) + 1 * (n.toNat % 128) = n.toNat % 1024; omega
  refine (key _).trans ?_
  exact congrArg (fun n : BitVec 32 => (T.view.read (Elt Ideal) t
    (ix3 (pairOf k) (rowOf k) ⟨n.toNat % 1024, Nat.mod_lt _ (by decide)⟩) : EReal)) hx

/-- The embeddings at all 256 columns: the columns from 160 on are zero. -/
def eW (x : Vec Ideal S1x20x512 .i32) (T : Fin 10 → Fin 16 → Fin 1024 → EReal) (s : Fin 512) (k : Fin 256) : EReal :=
  if h : k.val < 160 then eV x T s ⟨k.val, h⟩ else 0

/-- An embedding buffer after a phase's embeddings: new in the first 160 columns, old in the others. -/
theorem read_emR {sig' : RefSig} {κ : Kind} {sp : Space} (v : View sig' κ sp S512x256 .bf16) (f' : v.ty.Contents (Elt Ideal))
    (X : Memref sig .tc .vmem S1x20x512 .i32) (f : X.view.ty.Contents (Elt Ideal))
    (T : Memref sig .tc .vmem S10x16x1024 .f32) (t : T.view.ty.Contents (Elt Ideal)) (s : Fin 512) (k : Fin 256)
    (h0 : 160 ≤ k.val → v.read (Elt Ideal) f' (ix2 s k) = (0 : EReal)) :
    v.read (Elt Ideal) (v.writes (Elt Ideal) f' (embL (F := Ideal) (emR (F := Ideal) X f T t))) (ix2 s k)
      = eW (X.view.read (Elt Ideal) f) (fun p r j => T.view.read (Elt Ideal) t (ix3 p r j)) s k := by
  rw [read_embL v f' _ _ (emR_apply X f T t) s k]
  unfold eW
  split_ifs with h
  · rfl
  · exact h0 (not_lt.mp h)

/-- Reading a whole buffer through the rectangle of its shape at the origin. -/
theorem readAt_whole {κ : Kind} {sp : Space} {e : EltTy} (v : View sig κ sp S512x256 e) (f : v.ty.Contents (Elt Ideal)) :
    View.readAt (Elt Ideal) v (Rect.unit ![0, 0] S512x256.size inb_S512x256_S512x256_0_0).toLoadRect f = v.read (Elt Ideal) f :=
  View.ld_unit_zero (S := S512x256) (by funext a; fin_cases a <;> rfl) _ _

theorem readAt_whole' {κ : Kind} {sp : Space} {e : EltTy} (v : View sig κ sp S20x2048 e) (f : v.ty.Contents (Elt Ideal)) :
    View.readAt (Elt Ideal) v (Rect.unit ![0, 0] S20x2048.size inb_S20x2048_S20x2048_0_0).toLoadRect f = v.read (Elt Ideal) f :=
  View.ld_unit_zero (S := S20x2048) (by funext a; fin_cases a <;> rfl) _ _

/-- The output block, everything read from its buffer. -/
theorem read_outR {sig' : RefSig} {κ : Kind} {sp : Space} (v : View sig' κ sp S1x1024x2048 .bf16) (f : v.ty.Contents (Elt Ideal))
    (E0 : Memref sig .tc .vmem S512x256 .bf16) (f0 : E0.view.ty.Contents (Elt Ideal))
    (E1 : Memref sig .tc .vmem S512x256 .bf16) (f1 : E1.view.ty.Contents (Elt Ideal))
    (W : Memref sig .tc .vmem S256x2048 .bf16) (w : W.view.ty.Contents (Elt Ideal))
    (B : Memref sig .tc .vmem S1x2048 .f32) (b : B.view.ty.Contents (Elt Ideal))
    (e0 e1 : Fin 512 → Fin 256 → EReal) (w' : Fin 256 → Fin 2048 → EReal) (b' : Fin 2048 → EReal)
    (h0 : ∀ s k, E0.view.read (Elt Ideal) f0 (ix2 s k) = e0 s k) (h1 : ∀ s k, E1.view.read (Elt Ideal) f1 (ix2 s k) = e1 s k)
    (hw : ∀ q d, W.view.read (Elt Ideal) w (ix2 q d) = w' q d) (hb : ∀ d, B.view.read (Elt Ideal) b (ix2 0 d) = b' d)
    (r : Fin 1024) (d : Fin 2048) :
    v.read (Elt Ideal) (v.writes (Elt Ideal) f (outR (F := Ideal) E0 f0 E1 f1 W w B b)) (ix3 0 r d)
      = (∑ q : Fin 256, (if r.val < 512 then e0 else e1) ⟨r.val % 512, Nat.mod_lt _ (by decide)⟩ q * w' q d) + b' d := by
  refine (read_outL v f _ (W.view.read (Elt Ideal) w) (B.view.read (Elt Ideal) b) r d).trans ?_
  have hr := r.isLt
  refine congrArg₂ (fun x y : EReal => x + y) (Finset.sum_congr rfl fun q _ => ?_) (hb d)
  refine congrArg₂ (fun x y : EReal => x * y) ?_ (hw q d)
  rw [readAt_whole, readAt_whole]
  split_ifs with h
  · have e : (⟨r.val / 512, by omega⟩ : Fin 2) = 0 := Fin.ext (show r.val / 512 = 0 by omega)
    rw [e]
    exact h0 _ _
  · have e : (⟨r.val / 512, by omega⟩ : Fin 2) = 1 := Fin.ext (show r.val / 512 = 1 by omega)
    rw [e]
    exact h1 _ _

/-- The second embedding buffer after a later point: the embeddings of the codes in window 1. -/
theorem soutB4 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : ¬cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (xs0 : Vec Ideal S10x16x1024 .f32) (xs1 : Vec Ideal S256x2048 .bf16) (xs2 : Vec Ideal S1x2048 .f32) (xs3 : Vec Ideal S512x256 .bf16) (xs4 : Vec Ideal S512x256 .bf16) (hz : ∀ (s : Fin 512) (k : Fin 256), 160 ≤ k.val → xs4 (ix2 s k) = (0 : EReal)) (s : Fin 512) (k : Fin 256) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 xs4 (ix2 s k) = eW x1 (fun p r j => xs0 (ix3 p r j)) s k := by
  unfold sout0_B_4
  rw [runB4]
  refine (read_emR _ _ _ _ _ _ s k fun h => ?_).trans ?_
  · rw [harg13.read_unread]; exact hz s k h
  · rw [harg2.read_unread, harg9.read_unread]

/-- The first embedding buffer after a later point: the embeddings of the codes in window 2. -/
theorem soutB3 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : ¬cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (xs0 : Vec Ideal S10x16x1024 .f32) (xs1 : Vec Ideal S256x2048 .bf16) (xs2 : Vec Ideal S1x2048 .f32) (xs3 : Vec Ideal S512x256 .bf16) (xs4 : Vec Ideal S512x256 .bf16) (hz : ∀ (s : Fin 512) (k : Fin 256), 160 ≤ k.val → xs3 (ix2 s k) = (0 : EReal)) (s : Fin 512) (k : Fin 256) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 xs4 (ix2 s k) = eW x2 (fun p r j => xs0 (ix3 p r j)) s k := by
  unfold sout0_B_3
  rw [runB3]
  refine (read_emR _ _ _ _ _ _ s k fun h => ?_).trans ?_
  · rw [harg12.read_unread]; exact hz s k h
  · rw [harg3.read_unread, harg9.read_unread]

/-- The output block after a later point: the first half from the embeddings found, the second half from those of window 1. -/
theorem outB7 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : ¬cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (xs0 : Vec Ideal S10x16x1024 .f32) (xs1 : Vec Ideal S256x2048 .bf16) (xs2 : Vec Ideal S1x2048 .f32) (xs3 : Vec Ideal S512x256 .bf16) (xs4 : Vec Ideal S512x256 .bf16) (hz : ∀ (s : Fin 512) (k : Fin 256), 160 ≤ k.val → xs4 (ix2 s k) = (0 : EReal)) (r : Fin 1024) (d : Fin 2048) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 xs4 (ix3 0 r d) = (∑ q : Fin 256, (if r.val < 512 then fun s k => xs3 (ix2 s k) else eW x1 (fun p r j => xs0 (ix3 p r j))) ⟨r.val % 512, Nat.mod_lt _ (by decide)⟩ q * (xs1 (ix2 q d) : EReal)) + (xs2 (ix2 0 d) : EReal) := by
  unfold out0_B_7
  rw [runB7]
  refine read_outR _ _ _ _ _ _ _ _ _ _ (fun s k => xs3 (ix2 s k)) _ (fun q d => xs1 (ix2 q d)) (fun d => xs2 (ix2 0 d)) ?_ ?_ ?_ ?_ r d
  · intro s k; rw [harg12.read_unread]
  · intro s k
    refine (read_emR _ _ _ _ _ _ s k fun h => ?_).trans ?_
    · rw [harg13.read_unread]; exact hz s k h
    · rw [harg2.read_unread, harg9.read_unread]
  · intro q d; rw [harg10.read_unread]
  · intro d; rw [harg11.read_unread]

/-- The table after the first point. -/
theorem soutA0 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (p : Fin 10) (r : Fin 16) (j : Fin 1024) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 p r j) = tabV x3 p r j := by
  unfold sout0_A_0
  rw [runA0]
  refine (read_tabL _ _ (arg4.view.read (Elt Ideal) (harg4.unread x3)) p r j).trans ?_
  rw [harg4.read_unread]

/-- The weights after the first point. -/
theorem soutA1 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (q : Fin 256) (d : Fin 2048) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 q d) = wV x4 x5 q d := by
  unfold sout0_A_1
  rw [runA1, wR, readAt_whole']
  refine (read_wL _ _ (arg5.view.read (Elt Ideal) (harg5.unread x4)) _ q d).trans ?_
  rw [harg5.read_unread, harg6.read_unread]

/-- The summed biases after the first point. -/
theorem soutA2 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (d : Fin 2048) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 0 d) = ∑ l : Fin 20, (x6 (ix2 l d) : EReal) := by
  unfold sout0_A_2
  rw [runA2, biasR, readAt_whole']
  refine (read_biasL _ _ _ d).trans ?_
  rw [harg7.read_unread]

/-- The first embedding buffer after the first point: the embeddings of the codes in window 2. -/
theorem soutA3 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (s : Fin 512) (k : Fin 256) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 s k) = eW x2 (tabV x3) s k := by
  have ht : (fun p r j => arg9.view.read (Elt Ideal) (arg9.view.writes (Elt Ideal) arg9.view.junk (tabR (F := Ideal) arg4 (harg4.unread x3))) (ix3 p r j))
      = tabV x3 := by
    funext p r j
    refine (read_tabL _ _ (arg4.view.read (Elt Ideal) (harg4.unread x3)) p r j).trans ?_
    rw [harg4.read_unread]
  unfold sout0_A_3
  rw [runA3, View.writes_append]
  refine (read_emR _ _ _ _ _ _ s k fun h => ?_).trans ?_
  · rw [View.writes_append]
    refine (read_emR _ _ _ _ _ _ s k fun h' => read_zeroE _ _ s k (by omega)).trans ?_
    exact dif_neg (not_lt.mpr h)
  · rw [ht, harg3.read_unread]

/-- The second embedding buffer after the first point: the embeddings of the codes in window 1. -/
theorem soutA4 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (s : Fin 512) (k : Fin 256) :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 s k) = eW x1 (tabV x3) s k := by
  have ht : (fun p r j => arg9.view.read (Elt Ideal) (arg9.view.writes (Elt Ideal) arg9.view.junk (tabR (F := Ideal) arg4 (harg4.unread x3))) (ix3 p r j))
      = tabV x3 := by
    funext p r j
    refine (read_tabL _ _ (arg4.view.read (Elt Ideal) (harg4.unread x3)) p r j).trans ?_
    rw [harg4.read_unread]
  unfold sout0_A_4
  rw [runA4, View.writes_append]
  refine (read_emR _ _ _ _ _ _ s k fun h => read_zeroE _ _ s k (by omega)).trans ?_
  rw [ht, harg2.read_unread]

/-- The output block after the first point: the first half from the codes of window 0, the second half from those of window 1. -/
theorem outA7 (c : Dev nD) (i : grid0.Coords) (arg1 : Memref sig .tc .vmem S1x20x512 .i32) (harg1 : arg1.IsWhole) (arg2 : Memref sig .tc .vmem S1x20x512 .i32) (harg2 : arg2.IsWhole) (arg3 : Memref sig .tc .vmem S1x20x512 .i32) (harg3 : arg3.IsWhole) (arg4 : Memref sig .tc .vmem S20x8x1024 .bf16) (harg4 : arg4.IsWhole) (arg5 : Memref sig .tc .vmem S20x8x2048 .fp8e4m3) (harg5 : arg5.IsWhole) (arg6 : Memref sig .tc .vmem S20x2048 .f32) (harg6 : arg6.IsWhole) (arg7 : Memref sig .tc .vmem S20x2048 .f32) (harg7 : arg7.IsWhole) (arg8 : Memref sig .tc .vmem S1x1024x2048 .bf16) (harg8 : arg8.IsWhole) (arg9 : Memref sig .tc .vmem S10x16x1024 .f32) (harg9 : arg9.IsWhole) (arg10 : Memref sig .tc .vmem S256x2048 .bf16) (harg10 : arg10.IsWhole) (arg11 : Memref sig .tc .vmem S1x2048 .f32) (harg11 : arg11.IsWhole) (arg12 : Memref sig .tc .vmem S512x256 .bf16) (harg12 : arg12.IsWhole) (arg13 : Memref sig .tc .vmem S512x256 .bf16) (harg13 : arg13.IsWhole) (hc0 : cond0_0 i)
    (x0 : Vec Ideal S1x20x512 .i32) (x1 : Vec Ideal S1x20x512 .i32) (x2 : Vec Ideal S1x20x512 .i32) (x3 : Vec Ideal S20x8x1024 .bf16) (x4 : Vec Ideal S20x8x2048 .fp8e4m3) (x5 : Vec Ideal S20x2048 .f32) (x6 : Vec Ideal S20x2048 .f32) (r : Fin 1024) (d : Fin 2048) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 (ix3 0 r d) = (∑ q : Fin 256, (if r.val < 512 then eW x0 (tabV x3) else eW x1 (tabV x3)) ⟨r.val % 512, Nat.mod_lt _ (by decide)⟩ q * wV x4 x5 q d) + ∑ l : Fin 20, (x6 (ix2 l d) : EReal) := by
  have ht : (fun p r j => arg9.view.read (Elt Ideal) (arg9.view.writes (Elt Ideal) arg9.view.junk (tabR (F := Ideal) arg4 (harg4.unread x3))) (ix3 p r j))
      = tabV x3 := by
    funext p r j
    refine (read_tabL _ _ (arg4.view.read (Elt Ideal) (harg4.unread x3)) p r j).trans ?_
    rw [harg4.read_unread]
  unfold out0_A_7
  rw [runA7]
  refine read_outR _ _ _ _ _ _ _ _ _ _ _ _ (wV x4 x5) (fun d => ∑ l : Fin 20, (x6 (ix2 l d) : EReal)) ?_ ?_ ?_ ?_ r d
  · intro s k
    rw [View.writes_append]
    refine (read_emR _ _ _ _ _ _ s k fun h => read_zeroE _ _ s k (by omega)).trans ?_
    rw [ht, harg1.read_unread]
  · intro s k
    rw [View.writes_append]
    refine (read_emR _ _ _ _ _ _ s k fun h => read_zeroE _ _ s k (by omega)).trans ?_
    rw [ht, harg2.read_unread]
  · intro q d
    rw [wR, readAt_whole']
    refine (read_wL _ _ (arg5.view.read (Elt Ideal) (harg5.unread x4)) _ q d).trans ?_
    rw [harg5.read_unread, harg6.read_unread]
  · intro d
    rw [biasR, readAt_whole']
    refine (read_biasL _ _ _ d).trans ?_
    rw [harg7.read_unread]

end Cert.Proof.Ker

end
-- ==== Proof.Points.lean ====
module

public import proofs.«01_k».proof.Proof.Cases
public import proofs.«01_k».proof.Proof.Gen.KernelIdeal.Value
public import Idealize.ShloMosaic.Lib.StableHlo.Run
public import Idealize.ShloMosaic.Lib.Tactic

@[expose] public section

set_option maxRecDepth 8192

noncomputable section

namespace Cert.Proof.Ker

open Cert.KernelIdeal Cert.KernelIdeal.Gen Idealize.ShloMosaic Idealize.ShloMosaic.TcCoe Idealize.ShloMosaic.Tactic
open Idealize.SL.Sem Cert.Proof.Spec
open scoped BigOperators

variable (m : (ℓ : Loc nD τ sig) → Buf (Elt Ideal) ℓ)

/-! ## The windows' blocks, read off the arrays -/

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx1 : ∀ t : Fin cfg0.N, win0_1.index t (0 : Fin 3) = (2 * t.val + 1) / 24 ∧ win0_1.index t (1 : Fin 3) = 0
    ∧ win0_1.index t (2 : Fin 3) = (2 * t.val + 1) % 24 :=
  (by decide +kernel : ∀ t : Fin grid0.N, _)
theorem idx2 : ∀ t : Fin cfg0.N, t.val < 59 → win0_2.index t (0 : Fin 3) = (2 * t.val + 2) / 24 ∧ win0_2.index t (1 : Fin 3) = 0
    ∧ win0_2.index t (2 : Fin 3) = (2 * t.val + 2) % 24 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-- The codes of phase `n`: 512 tokens of one batch row. -/
def phase (codes : S5x20x12288.Idx → BitVec 32) (n : ℕ) (hn : n < 120) (l : Fin 20) (s : Fin 512) : BitVec 32 :=
  codes (ix3 ⟨n / 24, by omega⟩ l ⟨512 * (n % 24) + s.val, by have := s.isLt; omega⟩)

theorem blk0 (c : Dev nD) (t : Fin cfg0.N) (l : Fin 20) (s : Fin 512) :
    iblk m c 0 t (ix3 (n0 := 1) 0 l s) = phase (m ((c : Thread nD τ).loc main_arg0)) 0 (by decide) l s := by
  obtain ⟨h0, h1, h2⟩ := idx0 t
  refine Eq.trans ?_ (congrFun (V_main_arg0 m c) _)
  show V m c main_arg0 (((cfg0.win 0).blk t).view.emb (ix3 (n0 := 1) 0 l s)) = V m c main_arg0 _
  refine congrArg (V m c main_arg0) (funext fun a => Fin.ext ?_)
  match a with
  | ⟨0, _⟩ => show win0_0.index t (0 : Fin 3) * 1 + 1 * 0 = 0 / 24; omega
  | ⟨1, _⟩ => show win0_0.index t (1 : Fin 3) * 20 + 1 * l.val = l.val; omega
  | ⟨2, _⟩ => show win0_0.index t (2 : Fin 3) * 512 + 1 * s.val = 512 * (0 % 24) + s.val; omega

theorem blk1 (c : Dev nD) (t : Fin cfg0.N) (hn : 2 * t.val + 1 < 120) (l : Fin 20) (s : Fin 512) :
    iblk m c 1 t (ix3 (n0 := 1) 0 l s) = phase (m ((c : Thread nD τ).loc main_arg0)) (2 * t.val + 1) hn l s := by
  obtain ⟨h0, h1, h2⟩ := idx1 t
  refine Eq.trans ?_ (congrFun (V_main_arg0 m c) _)
  show V m c main_arg0 (((cfg0.win 1).blk t).view.emb (ix3 (n0 := 1) 0 l s)) = V m c main_arg0 _
  refine congrArg (V m c main_arg0) (funext fun a => Fin.ext ?_)
  match a with
  | ⟨0, _⟩ => show win0_1.index t (0 : Fin 3) * 1 + 1 * 0 = (2 * t.val + 1) / 24; omega
  | ⟨1, _⟩ => show win0_1.index t (1 : Fin 3) * 20 + 1 * l.val = l.val; omega
  | ⟨2, _⟩ => show win0_1.index t (2 : Fin 3) * 512 + 1 * s.val = 512 * ((2 * t.val + 1) % 24) + s.val; omega

theorem blk2 (c : Dev nD) (t : Fin cfg0.N) (hn : 2 * t.val + 2 < 120) (l : Fin 20) (s : Fin 512) :
    iblk m c 2 t (ix3 (n0 := 1) 0 l s) = phase (m ((c : Thread nD τ).loc main_arg0)) (2 * t.val + 2) hn l s := by
  obtain ⟨h0, h1, h2⟩ := idx2 t (by omega)
  refine Eq.trans ?_ (congrFun (V_main_arg0 m c) _)
  show V m c main_arg0 (((cfg0.win 2).blk t).view.emb (ix3 (n0 := 1) 0 l s)) = V m c main_arg0 _
  refine congrArg (V m c main_arg0) (funext fun a => Fin.ext ?_)
  match a with
  | ⟨0, _⟩ => show win0_2.index t (0 : Fin 3) * 1 + 1 * 0 = (2 * t.val + 2) / 24; omega
  | ⟨1, _⟩ => show win0_2.index t (1 : Fin 3) * 20 + 1 * l.val = l.val; omega
  | ⟨2, _⟩ => show win0_2.index t (2 : Fin 3) * 512 + 1 * s.val = 512 * ((2 * t.val + 2) % 24) + s.val; omega

/-- The codebooks, entries last: what the host hands the kernel. -/
theorem V_books (c : Dev nD) : V m c main_v0
    = transpose S20x8x1024 [0, 2, 1] (m ((c : Thread nD τ).loc main_arg1) : Vec Ideal S20x1024x8 .bf16) transposes_S20x1024x8_S20x8x1024_0_2_1 := by
  dsimp only [V, List.flatten, List.append, hostOps0]
  after_results

theorem blk3 (c : Dev nD) (t : Fin cfg0.N) (l : Fin 20) (q : Fin 8) (j : Fin 1024) :
    iblk m c 3 t (ix3 (n0 := 20) (n1 := 8) l q j) = m ((c : Thread nD τ).loc main_arg1) (ix3 (n0 := 20) (n1 := 1024) l j q) := by
  obtain ⟨h0, h1, h2⟩ := idx3 t
  have hV : V m c main_v0 (ix3 (n0 := 20) (n1 := 8) l q j) = m ((c : Thread nD τ).loc main_arg1) (ix3 (n0 := 20) (n1 := 1024) l j q) := by
    rw [V_books]
    pointwise
  refine Eq.trans ?_ hV
  show V m c main_v0 (((cfg0.win 3).blk t).view.emb (ix3 (n0 := 20) (n1 := 8) l q j)) = V m c main_v0 _
  refine congrArg (V m c main_v0) (funext fun a => Fin.ext ?_)
  match a with
  | ⟨0, _⟩ => show win0_3.index t (0 : Fin 3) * 20 + 1 * l.val = l.val; omega
  | ⟨1, _⟩ => show win0_3.index t (1 : Fin 3) * 8 + 1 * q.val = q.val; omega
  | ⟨2, _⟩ => show win0_3.index t (2 : Fin 3) * 1024 + 1 * j.val = j.val; omega

theorem blk4 (c : Dev nD) (t : Fin cfg0.N) (l : Fin 20) (q : Fin 8) (d : Fin 2048) :
    iblk m c 4 t (ix3 (n0 := 20) (n1 := 8) l q d) = m ((c : Thread nD τ).loc main_arg2) (ix3 (n0 := 20) (n1 := 8) l q d) := by
  obtain ⟨h0, h1, h2⟩ := idx4 t
  refine Eq.trans ?_ (congrFun (V_main_arg2 m c) _)
  show V m c main_arg2 (((cfg0.win 4).blk t).view.emb (ix3 (n0 := 20) (n1 := 8) l q d)) = V m c main_arg2 _
  refine congrArg (V m c main_arg2) (funext fun a => Fin.ext ?_)
  match a with
  | ⟨0, _⟩ => show win0_4.index t (0 : Fin 3) * 20 + 1 * l.val = l.val; omega
  | ⟨1, _⟩ => show win0_4.index t (1 : Fin 3) * 8 + 1 * q.val = q.val; omega
  | ⟨2, _⟩ => show win0_4.index t (2 : Fin 3) * 2048 + 1 * d.val = d.val; omega

theorem blk5 (c : Dev nD) (t : Fin cfg0.N) (l : Fin 20) (d : Fin 2048) :
    iblk m c 5 t (ix2 (n0 := 20) l d) = m ((c : Thread nD τ).loc main_arg3) (ix2 (n0 := 20) l d) := by
  obtain ⟨h0, h1⟩ := idx5 t
  refine Eq.trans ?_ (congrFun (V_main_arg3 m c) _)
  show V m c main_arg3 (((cfg0.win 5).blk t).view.emb (ix2 (n0 := 20) l d)) = V m c main_arg3 _
  refine congrArg (V m c main_arg3) (funext fun a => Fin.ext ?_)
  match a with
  | ⟨0, _⟩ => show win0_5.index t (0 : Fin 2) * 20 + 1 * l.val = l.val; omega
  | ⟨1, _⟩ => show win0_5.index t (1 : Fin 2) * 2048 + 1 * d.val = d.val; omega

theorem blk6 (c : Dev nD) (t : Fin cfg0.N) (l : Fin 20) (d : Fin 2048) :
    iblk m c 6 t (ix2 (n0 := 20) l d) = m ((c : Thread nD τ).loc main_arg4) (ix2 (n0 := 20) l d) := by
  obtain ⟨h0, h1⟩ := idx6 t
  refine Eq.trans ?_ (congrFun (V_main_arg4 m c) _)
  show V m c main_arg4 (((cfg0.win 6).blk t).view.emb (ix2 (n0 := 20) l d)) = V m c main_arg4 _
  refine congrArg (V m c main_arg4) (funext fun a => Fin.ext ?_)
  match a with
  | ⟨0, _⟩ => show win0_6.index t (0 : Fin 2) * 20 + 1 * l.val = l.val; omega
  | ⟨1, _⟩ => show win0_6.index t (1 : Fin 2) * 2048 + 1 * d.val = d.val; omega

/-! ## The buffers between the points -/

/-- The first point. -/
abbrev p0 : Fin cfg0.N := ⟨0, lt_of_lt_of_eq (by decide : 0 < 60) N_0.symm⟩

/-- The table and the weights, as the first point lays them down. -/
def tabF (c : Dev nD) : Fin 10 → Fin 16 → Fin 1024 → EReal := tabV (iblk m c 3 p0)
def wF (c : Dev nD) : Fin 256 → Fin 2048 → EReal := wV (iblk m c 4 p0) (iblk m c 5 p0)
def bF (c : Dev nD) (d : Fin 2048) : EReal := ∑ l : Fin 20, (iblk m c 6 p0 (ix2 (n0 := 20) l d) : EReal)

/-- A row of the output: the embeddings through the weights, and the bias. -/
def rowF (c : Dev nD) (x : Vec Ideal S1x20x512 .i32) (s : Fin 512) (d : Fin 2048) : EReal :=
  (∑ q : Fin 256, eW x (tabF m c) s q * wF m c q d) + bF m c d

/-- What the carried buffers hold after point `n`. -/
structure Inv (c : Dev nD) (n : ℕ) (hn : n < cfg0.N) : Prop where
  tab : ∀ p r j, (outsAt0 m c n hn).2.1 (ix3 p r j) = tabF m c p r j
  w : ∀ q d, (outsAt0 m c n hn).2.2.1 (ix2 q d) = wF m c q d
  b : ∀ d, (outsAt0 m c n hn).2.2.2.1 (ix2 0 d) = bF m c d
  e0 : ∀ s k, (outsAt0 m c n hn).2.2.2.2.1 (ix2 s k) = eW (iblk m c 2 ⟨n, hn⟩) (tabF m c) s k
  e1 : ∀ s k, (outsAt0 m c n hn).2.2.2.2.2 (ix2 s k) = eW (iblk m c 1 ⟨n, hn⟩) (tabF m c) s k

theorem eW_zero (x : Vec Ideal S1x20x512 .i32) (T : Fin 10 → Fin 16 → Fin 1024 → EReal) (s : Fin 512) (k : Fin 256)
    (h : 160 ≤ k.val) : eW x T s k = 0 := dif_neg (not_lt.mpr h)

theorem inv_zero (c : Dev nD) : Inv m c 0 p0.isLt := by
  have e := outsAt0_A m c p0 (Nat.zero_mod _)
  refine ⟨fun p r j => ?_, fun q d => ?_, fun d => ?_, fun s k => ?_, fun s k => ?_⟩
  · have h := congrArg (fun o => o.2.1) e
    dsimp only at h
    refine (congrFun h _).trans ?_
    exact soutA0 ..
  · have h := congrArg (fun o => o.2.2.1) e
    dsimp only at h
    refine (congrFun h _).trans ?_
    exact soutA1 ..
  · have h := congrArg (fun o => o.2.2.2.1) e
    dsimp only at h
    refine (congrFun h _).trans ?_
    exact soutA2 ..
  · have h := congrArg (fun o => o.2.2.2.2.1) e
    dsimp only at h
    refine (congrFun h _).trans ?_
    exact soutA3 ..
  · have h := congrArg (fun o => o.2.2.2.2.2) e
    dsimp only at h
    refine (congrFun h _).trans ?_
    exact soutA4 ..

theorem inv_succ (c : Dev nD) (n : ℕ) (hn : n + 1 < cfg0.N) (I : Inv m c n (Nat.lt_of_succ_lt hn)) : Inv m c (n + 1) hn := by
  have hN : n + 1 < 60 := lt_of_lt_of_eq hn N_0
  have e := (Value.outsAt0_succ m c n hn).trans (Value.stAt0_B m c ⟨n + 1, hn⟩ _ (by show ¬(n + 1) % 60 = 0; omega))
  have ht : (fun p r j => (outsAt0 m c n (Nat.lt_of_succ_lt hn)).2.1 (ix3 p r j)) = tabF m c := by
    funext p r j; exact I.tab p r j
  refine ⟨fun p r j => ?_, fun q d => ?_, fun d => ?_, fun s k => ?_, fun s k => ?_⟩
  · exact (congrFun (congrArg (fun o => o.2.1) e) _).trans (I.tab p r j)
  · exact (congrFun (congrArg (fun o => o.2.2.1) e) _).trans (I.w q d)
  · exact (congrFun (congrArg (fun o => o.2.2.2.1) e) _).trans (I.b d)
  · have h := congrArg (fun o => o.2.2.2.2.1) e
    dsimp only at h
    refine (congrFun h _).trans ?_
    refine (soutB3 (hz := fun s k h => (I.e0 s k).trans (eW_zero _ _ s k h)) ..).trans ?_
    exact congrArg (fun T => eW (iblk m c 2 ⟨n + 1, hn⟩) T s k) ht
  · have h := congrArg (fun o => o.2.2.2.2.2) e
    dsimp only at h
    refine (congrFun h _).trans ?_
    refine (soutB4 (hz := fun s k h => (I.e1 s k).trans (eW_zero _ _ s k h)) ..).trans ?_
    exact congrArg (fun T => eW (iblk m c 1 ⟨n + 1, hn⟩) T s k) ht

theorem inv (c : Dev nD) : ∀ (n : ℕ) (hn : n < cfg0.N), Inv m c n hn
  | 0, _ => inv_zero m c
  | n + 1, hn => inv_succ m c n hn (inv c n (Nat.lt_of_succ_lt hn))

/-- The first point's output block. -/
theorem out_zero (c : Dev nD) (r : Fin 1024) (d : Fin 2048) :
    (outsAt0 m c 0 p0.isLt).1 (ix3 0 r d)
      = rowF m c (if r.val < 512 then iblk m c 0 p0 else iblk m c 1 p0) ⟨r.val % 512, Nat.mod_lt _ (by decide)⟩ d := by
  have e := outsAt0_A m c p0 (Nat.zero_mod _)
  have h := congrArg (fun o => o.1) e
  dsimp only at h
  refine (congrFun h _).trans ?_
  rw [outA7]
  split_ifs with h
  · rfl
  · rfl

/-- A later point's output block. -/
theorem out_succ (c : Dev nD) (n : ℕ) (hn : n + 1 < cfg0.N) (r : Fin 1024) (d : Fin 2048) :
    (outsAt0 m c (n + 1) hn).1 (ix3 0 r d)
      = rowF m c (if r.val < 512 then iblk m c 2 ⟨n, Nat.lt_of_succ_lt hn⟩ else iblk m c 1 ⟨n + 1, hn⟩)
          ⟨r.val % 512, Nat.mod_lt _ (by decide)⟩ d := by
  have hN : n + 1 < 60 := lt_of_lt_of_eq hn N_0
  have I := inv m c n (Nat.lt_of_succ_lt hn)
  have e := (Value.outsAt0_succ m c n hn).trans (Value.stAt0_B m c ⟨n + 1, hn⟩ _ (by show ¬(n + 1) % 60 = 0; omega))
  have ht : (fun p r j => (outsAt0 m c n (Nat.lt_of_succ_lt hn)).2.1 (ix3 p r j)) = tabF m c := by
    funext p r j; exact I.tab p r j
  have h := congrArg (fun o => o.1) e
  dsimp only at h
  refine (congrFun h _).trans ?_
  refine (outB7 (hz := fun s k h => (I.e1 s k).trans (eW_zero _ _ s k h)) ..).trans ?_
  refine congrArg₂ (fun x y : EReal => x + y) (Finset.sum_congr rfl fun q _ => ?_) (I.b d)
  refine congrArg₂ (fun x y : EReal => x * y) ?_ (I.w q d)
  split_ifs with h
  · exact I.e0 _ q
  · exact congrArg (fun T => eW (iblk m c 1 ⟨n + 1, hn⟩) T _ q) ht

/-! ## The result -/

/-- A sum over 256 columns that are zero from 160 on is the sum over the first 160. -/
theorem sum_160 (f : Fin 256 → EReal) (g : Fin 160 → EReal) (h : ∀ k : Fin 160, f ⟨k.val, by omega⟩ = g k)
    (h0 : ∀ k : Fin 256, 160 ≤ k.val → f k = 0) : ∑ q : Fin 256, f q = ∑ k : Fin 160, g k := by
  refine (Fin.sum_univ_add (a := 160) (b := 96) f).trans ?_
  rw [Finset.sum_eq_zero (s := (Finset.univ : Finset (Fin 96))) fun i _ => h0 _ (by show 160 ≤ 160 + i.val; omega), add_zero]
  exact Finset.sum_congr rfl fun k _ => h k

/-- A row of the output is the decoded value of the row's codes. -/
theorem rowF_eq (c : Dev nD) (x : Vec Ideal S1x20x512 .i32) (s : Fin 512) (b : Fin 5) (s' : Fin 12288) (d : Fin 2048)
    (hx : ∀ l, x (ix3 0 l s) = m ((c : Thread nD τ).loc main_arg0) (ix3 (n0 := 5) (n1 := 20) b l s')) :
    rowF m c x s d
      = spec (m ((c : Thread nD τ).loc main_arg0)) (m ((c : Thread nD τ).loc main_arg1)) (m ((c : Thread nD τ).loc main_arg2))
          (m ((c : Thread nD τ).loc main_arg3)) (m ((c : Thread nD τ).loc main_arg4)) b s' d := by
  refine congrArg₂ (fun x y : EReal => x + y) (sum_160 _ _ (fun k => ?_) fun k hk => ?_) ?_
  · refine congrArg₂ (fun x y : EReal => x * y) ?_ ?_
    · refine (dif_pos k.isLt).trans ?_
      have hk := k.isLt
      unfold eV tabF tabV
      refine (blk3 m c p0 _ _ _).trans ?_
      refine congrArg (m ((c : Thread nD τ).loc main_arg1)) (funext fun a => Fin.ext ?_)
      match a with
      | ⟨0, _⟩ => show 2 * (k.val / 16) + k.val % 16 / 8 = k.val / 8; omega
      | ⟨1, _⟩ => exact congrArg (fun n : BitVec 32 => n.toNat % 1024) (hx (layer k))
      | ⟨2, _⟩ => show k.val % 16 % 8 = k.val % 8; omega
    · refine (dif_pos k.isLt).trans ?_
      exact congrArg₂ (fun x y : EReal => x * y) (blk4 m c p0 _ _ _) (blk5 m c p0 _ _)
  · show eW x (tabF m c) s k * wF m c k d = 0
    rw [eW_zero _ _ _ _ hk, zero_mul]
  · exact Finset.sum_congr rfl fun l _ => blk6 m c p0 l d

/-- Every element of the kernel's result is the decoded value. -/
theorem final_apply (c : Dev nD) (b : Fin 5) (s : Fin 12288) (d : Fin 2048) :
    (dats m 0 c).arrAt 7 cfg0.N (ix3 (n0 := 5) (n1 := 12288) b s d)
      = spec (m ((c : Thread nD τ).loc main_arg0)) (m ((c : Thread nD τ).loc main_arg1)) (m ((c : Thread nD τ).loc main_arg2))
          (m ((c : Thread nD τ).loc main_arg3)) (m ((c : Thread nD τ).loc main_arg4)) b s d := by
  have hb := b.isLt
  have hs := s.isLt
  have hd := d.isLt
  have hpt : Value.pt7Of (ix3 b s d) = 12 * b.val + s.val / 1024 := by
    show 12 * (b.val / 1 - 0) + 1 * (s.val / 1024 - 0) + 1 * (d.val / 2048 - 0) = _
    omega
  have hlt : Value.pt7Of (ix3 b s d) < cfg0.N := by
    rw [hpt]
    exact lt_of_lt_of_eq (by omega : 12 * b.val + s.val / 1024 < 60) N_0.symm
  have hloc : Value.loc7Of (ix3 b s d) = ix3 (n0 := 1) (n1 := 1024) (n2 := 2048) 0 ⟨s.val % 1024, Nat.mod_lt _ (by decide)⟩ d := by
    funext a
    apply Fin.ext
    match a with
    | ⟨0, _⟩ => show b.val % 1 = 0; omega
    | ⟨1, _⟩ => rfl
    | ⟨2, _⟩ => show d.val % 2048 = d.val; omega
  rw [Value.final7]
  unfold Value.G7
  rw [dif_pos hlt, ← Value.outsAt0_sweep m c _ hlt, hloc]
  have key : ∀ (n : ℕ) (hn : n < cfg0.N), n = 12 * b.val + s.val / 1024 →
      (outsAt0 m c n hn).1 (ix3 (n0 := 1) (n1 := 1024) (n2 := 2048) 0 ⟨s.val % 1024, Nat.mod_lt _ (by decide)⟩ d)
        = spec (m ((c : Thread nD τ).loc main_arg0)) (m ((c : Thread nD τ).loc main_arg1)) (m ((c : Thread nD τ).loc main_arg2))
          (m ((c : Thread nD τ).loc main_arg3)) (m ((c : Thread nD τ).loc main_arg4)) b s d := by
    intro n hn e
    have ph : ∀ (k : ℕ) (hk : k < 120) (l : Fin 20), k = 24 * b.val + s.val / 512 →
        phase (m ((c : Thread nD τ).loc main_arg0)) k hk l ⟨s.val % 1024 % 512, Nat.mod_lt _ (by decide)⟩
          = m ((c : Thread nD τ).loc main_arg0) (ix3 (n0 := 5) (n1 := 20) b l s) := by
      intro k hk l e
      refine congrArg (m ((c : Thread nD τ).loc main_arg0)) (funext fun a => Fin.ext ?_)
      match a with
      | ⟨0, _⟩ => show k / 24 = b.val; omega
      | ⟨1, _⟩ => rfl
      | ⟨2, _⟩ => show 512 * (k % 24) + s.val % 1024 % 512 = s.val; omega
    cases n with
    | zero =>
      refine (out_zero m c _ d).trans (rowF_eq m c _ _ b s d fun l => ?_)
      split_ifs with h
      · exact (blk0 m c p0 l _).trans (ph 0 (by decide) l (by simp only at h; omega))
      · exact (blk1 m c p0 (by decide) l _).trans (ph 1 (by decide) l (by simp only at h; omega))
    | succ n =>
      have hN : n + 1 < 60 := lt_of_lt_of_eq hn N_0
      refine (out_succ m c n hn _ d).trans (rowF_eq m c _ _ b s d fun l => ?_)
      split_ifs with h
      · exact (blk2 m c ⟨n, Nat.lt_of_succ_lt hn⟩ (by show 2 * n + 2 < 120; omega) l _).trans
          (ph (2 * n + 2) (by omega) l (by simp only at h; omega))
      · exact (blk1 m c ⟨n + 1, hn⟩ (by show 2 * (n + 1) + 1 < 120; omega) l _).trans
          (ph (2 * (n + 1) + 1) (by omega) l (by simp only at h; omega))
  exact key _ hlt hpt

end Cert.Proof.Ker

end
-- ==== Proof.RefHost.lean ====
module

public import proofs.«01_k».proof.Proof.Gen.ReferenceIdeal.Value
public import proofs.«01_k».proof.Proof.Spec
public import Idealize.ShloMosaic.Lib.StableHlo.Run
public import Idealize.ShloMosaic.Lib.Tactic

@[expose] public section

noncomputable section

namespace Cert.Proof.Ref

open Cert.ReferenceIdeal Cert.ReferenceIdeal.Gen Idealize.ShloMosaic Idealize.ShloMosaic.TcCoe Idealize.SL.Sem
open Cert.Proof.Spec

/-! ## The gather of table rows, read at an index -/

/-- Row `i` of the table is the start index of result row `(b, s, l)`, read signed and clamped. -/
theorem gather_rows_apply {α : Type} (x : S20480x8.Idx → α) (idx : IVec S5x12288x20x1 32) (b : Fin 5) (s : Fin 12288)
    (l : Fin 20) (c : Fin 8) :
    Host.gather gather_S20480x8_S5x12288x20x1_S5x12288x20x8_3_0_n_n_0_3_18 x idx (ix4 b s l c)
      = x (ix2 ⟨min (idx (ix4 b s l 0)).toInt.toNat 20479, by omega⟩ c) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rw [GatherDims.batchCoord_eq_zero _ _ _ (by show a ∉ []; simp)]
  rcases h01 with rfl | rfl
  · rw [GatherDims.offCoord_eq_zero _ _ _ (fun h => ((GatherDims.mem_sKept _ _).mp h).1 (by show (0 : Fin 2) ∈ [0]; simp))]
    simp only [Nat.add_zero]
    unfold GatherDims.start
    rw [dif_pos (show (0 : Fin 2) ∈ gather_S20480x8_S5x12288x20x1_S5x12288x20x8_3_0_n_n_0_3_18.startIndexMap from List.mem_singleton.mpr rfl)]
    have hsi : GatherDims.siIdx gather_S20480x8_S5x12288x20x1_S5x12288x20x8_3_0_n_n_0_3_18 (ix4 b s l c)
        ⟨List.idxOf (0 : Fin 2) [0], by simp [gather_S20480x8_S5x12288x20x1_S5x12288x20x8_3_0_n_n_0_3_18]⟩ = ix4 b s l 0 := by
      funext e; refine Fin.ext ?_
      match e with
      | ⟨0, _⟩ => rfl
      | ⟨1, _⟩ => rfl
      | ⟨2, _⟩ => rfl
      | ⟨3, _⟩ => rfl
    exact congrArg (fun z => min (idx z).toInt.toNat 20479) hsi
  · have hs : GatherDims.start gather_S20480x8_S5x12288x20x1_S5x12288x20x8_3_0_n_n_0_3_18 (ix4 b s l c) idx 1 = 0 := by
      unfold GatherDims.start
      rw [dif_neg (show (1 : Fin 2) ∉ gather_S20480x8_S5x12288x20x1_S5x12288x20x8_3_0_n_n_0_3_18.startIndexMap from by show (1 : Fin 2) ∉ [0]; simp)]
    rw [hs]
    simp only [Nat.zero_add, Nat.add_zero]
    rfl

/-! ## The rows the reference looks up -/

/-- The row of the stacked table that token `s` of layer `l` names. -/
def rowIdx (codes : IVec S5x20x12288 32) : IVec S5x12288x20 32 :=
  addi (transpose S5x12288x20 [0, 2, 1] codes transposes_S5x20x12288_S5x12288x20_0_2_1)
    (broadcastInDim S5x12288x20 ![0, 1, 2] bcast_S1x1x20_S5x12288x20_0_1_2
      (broadcastInDim S1x1x20 ![2] bcast_S20_S1x1x20_2
        (muli (iotaInDim S20 32 0) (broadcastInDim S20 ![] bcast_S_S20 (constantI S_ 32 1024#32)))))

/-- The row with a negative one wrapped, as start indices. -/
def startIdx (codes : IVec S5x20x12288 32) : IVec S5x12288x20x1 32 :=
  broadcastInDim S5x12288x20x1 ![0, 1, 2] bcast_S5x12288x20_S5x12288x20x1_0_1_2
    (select (cmpi .slt (rowIdx codes) (broadcastInDim S5x12288x20 ![] bcast_S_S5x12288x20 (constantI S_ 32 0#32)))
      (addi (rowIdx codes) (broadcastInDim S5x12288x20 ![] bcast_S_S5x12288x20 (constantI S_ 32 20480#32))) (rowIdx codes))

/-- Whether each row lies in the table. -/
def inTable (codes : IVec S5x20x12288 32) : IVec S5x12288x20x1 1 :=
  andi (cmpi .sge (startIdx codes) (broadcastInDim S5x12288x20x1 ![] bcast_S_S5x12288x20x1 (constantI S_ 32 0#32)))
    (cmpi .sle (startIdx codes) (broadcastInDim S5x12288x20x1 ![0, 1, 2, 3] bcast_S1x1x1x1_S5x12288x20x1_0_1_2_3
      (broadcastInDim S1x1x1x1 ![3] bcast_S1_S1x1x1x1_3 (constantI S1 32 20479#32))))

/-- The looked-up entries, a row per token. -/
def entries (codes : IVec S5x20x12288 32) (cb : FVec Ideal S20x1024x8 .bf16) : FVec Ideal S5x12288x160 .bf16 :=
  shapeCast S5x12288x160 (select (broadcastInDim S5x12288x20x8 ![0, 1, 2] bcast_S5x12288x20_S5x12288x20x8_0_1_2
      (Host.reduce IntOp.andi (inTable codes) (constantI S_ 1 1#1) reducesTo_S5x12288x20x1_S5x12288x20_d3 h_S_))
    (Host.gather gather_S20480x8_S5x12288x20x1_S5x12288x20x8_3_0_n_n_0_3_18 (shapeCast S20480x8 cb shapeCasts_S20x1024x8_S20480x8) (startIdx codes))
    (broadcastInDim S5x12288x20x8 ![] bcast_S_S5x12288x20x8 (constant S_ .bf16 0x7FC0#16)))
    shapeCasts_S5x12288x20x8_S5x12288x160

variable (m : (ℓ : Loc nD τ sig) → Buf (Elt Ideal) ℓ)

theorem V_v9 (c : Dev nD) : V m c main_v9 = entries (m ((c : Thread nD τ).loc main_arg0)) (m ((c : Thread nD τ).loc main_arg1)) := by
  dsimp only [V, List.flatten, List.append, hostOps0, hostOps0_1, hostOps0_2]
  after_results
  simp only [StableHlo.TRef.ofBuf_toBuf]
  unfold entries inTable startIdx rowIdx
  simp only [StableHlo.TRef.ofBuf, StableHlo.TRef.toBuf, cast_eq]
  first | done | (congr 3 <;> rfl)

theorem rowIdx_apply (codes : IVec S5x20x12288 32) (b : Fin 5) (s : Fin 12288) (l : Fin 20) :
    rowIdx codes (ix3 b s l) = codes (ix3 b l s) + BitVec.ofNat 32 l.val * 1024#32 := by
  unfold rowIdx
  pointwise
  rfl

theorem toNat_rowIdx (codes : IVec S5x20x12288 32) (hc : ∀ i, (codes i).toNat < 1024) (b : Fin 5) (s : Fin 12288) (l : Fin 20) :
    (rowIdx codes (ix3 b s l)).toNat = l.val * 1024 + (codes (ix3 b l s)).toNat := by
  rw [rowIdx_apply]
  have := hc (ix3 b l s)
  have hl := l.isLt
  simp only [BitVec.toNat_add, BitVec.toNat_mul, BitVec.toNat_ofNat]
  omega

theorem toInt_of_lt (x : BitVec 32) (h : x.toNat < 20480) : x.toInt = x.toNat :=
  BitVec.toInt_eq_toNat_of_lt (by omega)

/-- A row of the table is not negative. -/
theorem slt_zero (x : BitVec 32) (h : x.toNat < 20480) : IntOp.cmpi .slt x 0#32 = 0#1 := by
  unfold IntOp.cmpi
  simp only [BitVec.slt_eq_decide, toInt_of_lt x h, BitVec.toInt_zero]
  rw [decide_eq_false (by omega)]
  rfl

theorem zero_sle (x : BitVec 32) (h : x.toNat < 20480) : IntOp.cmpi .sge x 0#32 = 1#1 := by
  unfold IntOp.cmpi
  simp [BitVec.sle_eq_decide, toInt_of_lt x h]

theorem sle_last (x : BitVec 32) (h : x.toNat < 20480) : IntOp.cmpi .sle x 20479#32 = 1#1 := by
  unfold IntOp.cmpi
  have h2 : (20479#32 : BitVec 32).toInt = 20479 := by decide
  simp only [BitVec.sle_eq_decide, toInt_of_lt x h, h2]
  rw [decide_eq_true (by omega)]
  rfl

theorem toNat_rowIdx_lt (codes : IVec S5x20x12288 32) (hc : ∀ i, (codes i).toNat < 1024) (j : S5x12288x20.Idx) :
    (rowIdx codes j).toNat < 20480 := by
  obtain ⟨b, s, l, rfl⟩ : ∃ b s l, j = ix3 b s l := ⟨_, _, _, ValueIdx.eq_ix3 j⟩
  rw [toNat_rowIdx codes hc]
  have := hc (ix3 b l s)
  have hl := l.isLt
  omega

theorem startIdx_apply (codes : IVec S5x20x12288 32) (hc : ∀ i, (codes i).toNat < 1024) (b : Fin 5) (s : Fin 12288) (l : Fin 20) (z : Fin 1) :
    startIdx codes (ix4 b s l z) = rowIdx codes (ix3 b s l) := by
  have h : startIdx codes (ix4 b s l z) = Scalar.select (IntOp.cmpi .slt (rowIdx codes (ix3 b s l)) 0#32)
      (IntOp.addi (rowIdx codes (ix3 b s l)) 20480#32) (rowIdx codes (ix3 b s l)) := by
    unfold startIdx
    pointwise
  rw [h, slt_zero _ (toNat_rowIdx_lt codes hc _)]
  rfl

theorem inTable_eq (codes : IVec S5x20x12288 32) (hc : ∀ i, (codes i).toNat < 1024) (j : S5x12288x20x1.Idx) :
    inTable codes j = 1#1 := by
  obtain ⟨b, s, l, z, rfl⟩ : ∃ b s l z, j = ix4 b s l z := ⟨_, _, _, _, ValueIdx.eq_ix4 j⟩
  have h : inTable codes (ix4 b s l z) = IntOp.andi (IntOp.cmpi .sge (startIdx codes (ix4 b s l z)) 0#32)
      (IntOp.cmpi .sle (startIdx codes (ix4 b s l z)) 20479#32) := by
    unfold inTable
    pointwise
  rw [h, startIdx_apply codes hc, zero_sle _ (toNat_rowIdx_lt codes hc _), sle_last _ (toNat_rowIdx_lt codes hc _)]
  decide

theorem entries_apply (codes : IVec S5x20x12288 32) (hc : ∀ i, (codes i).toNat < 1024) (cb : FVec Ideal S20x1024x8 .bf16)
    (b : Fin 5) (s : Fin 12288) (k : Fin 160) :
    entries codes cb (ix3 b s k)
      = cb (ix3 (layer k) ⟨(codes (ix3 b (layer k) s)).toNat % 1024, Nat.mod_lt _ (by decide)⟩ (comp k)) := by
  have h : entries codes cb (ix3 b s k) = Scalar.select (Host.reduce IntOp.andi (inTable codes) (constantI S_ 1 1#1) reducesTo_S5x12288x20x1_S5x12288x20_d3 h_S_ (ix3 b s (layer k)))
      (Host.gather gather_S20480x8_S5x12288x20x1_S5x12288x20x8_3_0_n_n_0_3_18 (shapeCast S20480x8 cb shapeCasts_S20x1024x8_S20480x8) (startIdx codes) (ix4 b s (layer k) (comp k)))
      (constant S_ .bf16 0x7FC0#16 (fun a => a.elim0)) := by
    unfold entries
    rw [shapeCast_apply _ _ _ (ix4 b s (layer k) (comp k)) (by
      rw [Shape.rowMajor_val_four, Shape.rowMajor_val_three]
      show ((b.val * 12288 + s.val) * 20 + k.val / 8) * 8 + k.val % 8 = (b.val * 12288 + s.val) * 160 + k.val
      omega)]
    pointwise
  rw [h, Host.reduce_andi_one _ _ _ _ _ rfl (inTable_eq codes hc), gather_rows_apply]
  have hr := toNat_rowIdx codes hc b s (layer k)
  have hlt := toNat_rowIdx_lt codes hc (ix3 b s (layer k))
  have hcode := hc (ix3 b (layer k) s)
  have hl : (layer k).val = k.val / 8 := rfl
  rw [ValueIdx.select_one]
  refine shapeCast_apply _ _ _ _ ?_
  rw [Shape.rowMajor_val_two, Shape.rowMajor_val_three]
  show (k.val / 8 * 1024 + (codes (ix3 b (layer k) s)).toNat % 1024) * 8 + k.val % 8
    = min (startIdx codes (ix4 b s (layer k) 0)).toInt.toNat 20479 * 8 + k.val % 8
  rw [startIdx_apply codes hc, toInt_of_lt _ hlt, hr, Int.toNat_natCast]
  omega

end Cert.Proof.Ref
-- ==== Proof.RefValue.lean ====
module

public import proofs.«01_k».proof.Proof.RefHost

@[expose] public section

noncomputable section

namespace Cert.Proof.Ref

open Cert.ReferenceIdeal Cert.ReferenceIdeal.Gen Idealize.ShloMosaic Idealize.ShloMosaic.TcCoe Idealize.SL.Sem
open Cert.Proof.Spec
open Idealize.ShloMosaic.Pipeline (Dat)
open scoped BigOperators

variable (m : (ℓ : Loc nD τ sig) → Buf (Elt Ideal) ℓ)

/-- A product's value read at an index: the sum over the 160 columns, plus the biases. -/
theorem payload_apply (pc : Vec Ideal S20x8x2048 .fp8e4m3) (ps : Vec Ideal S20x2048 .f32) (e : Vec Ideal S5x12288x160 .bf16)
    (bias : Vec Ideal S20x2048 .f32) (b : Fin 5) (s : Fin 12288) (d : Fin 2048) :
    k0_pay1 pc ps e bias (ix3 b s d)
      = (∑ k : Fin 160, e (ix3 b s k) * (pc (ix3 (layer k) (comp k) d) * ps (ix2 (layer k) d))) + ∑ l : Fin 20, bias (ix2 l d) := by
  unfold k0_pay1
  pointwise

theorem out_eq (x0 : Vec Ideal S5x12288x160 .bf16) (x1 : Vec Ideal S20x8x2048 .fp8e4m3) (x2 x3 : Vec Ideal S20x2048 .f32) :
    out0_4 x0 x1 x2 x3 = k0_pay1 x1 x2 x0 x3 := by
  unfold out0_4
  rw [View.canon_unit_zero (by funext a; fin_cases a <;> rfl),
    View.ld_unit_zero (S := S5x12288x160) (by funext a; fin_cases a <;> rfl),
    View.ld_unit_zero (S := S20x8x2048) (by funext a; fin_cases a <;> rfl),
    View.ld_unit_zero (S := S20x2048) (by funext a; fin_cases a <;> rfl),
    View.ld_unit_zero (S := S20x2048) (by funext a; fin_cases a <;> rfl)]

/-- The one grid point. -/
abbrev t0 : Fin cfg0.N := ⟨0, by decide⟩

/-- Window 0's one block is its whole array. -/
theorem read0 (X : S5x12288x160.Idx → Elt Ideal .bf16) : ((cfg0.win 0).blk t0).view.read (Elt Ideal) X = X := by
  funext i
  show X (((cfg0.win 0).blk t0).view.emb i) = X i
  congr 1
  funext a
  apply Fin.ext
  match a with
  | ⟨0, _⟩ => show 0 * 5 + 1 * (i 0).val = (i 0).val; omega
  | ⟨1, _⟩ => show 0 * 12288 + 1 * (i 1).val = (i 1).val; omega
  | ⟨2, _⟩ => show 0 * 160 + 1 * (i 2).val = (i 2).val; omega

/-- Window 1's one block is its whole array. -/
theorem read1 (X : S20x8x2048.Idx → Elt Ideal .fp8e4m3) : ((cfg0.win 1).blk t0).view.read (Elt Ideal) X = X := by
  funext i
  show X (((cfg0.win 1).blk t0).view.emb i) = X i
  congr 1
  funext a
  apply Fin.ext
  match a with
  | ⟨0, _⟩ => show 0 * 20 + 1 * (i 0).val = (i 0).val; omega
  | ⟨1, _⟩ => show 0 * 8 + 1 * (i 1).val = (i 1).val; omega
  | ⟨2, _⟩ => show 0 * 2048 + 1 * (i 2).val = (i 2).val; omega

/-- Window 2's one block is its whole array. -/
theorem read2 (X : S20x2048.Idx → Elt Ideal .f32) : ((cfg0.win 2).blk t0).view.read (Elt Ideal) X = X := by
  funext i
  show X (((cfg0.win 2).blk t0).view.emb i) = X i
  congr 1
  funext a
  apply Fin.ext
  match a with
  | ⟨0, _⟩ => show 0 * 20 + 1 * (i 0).val = (i 0).val; omega
  | ⟨1, _⟩ => show 0 * 2048 + 1 * (i 1).val = (i 1).val; omega

/-- Window 3's one block is its whole array. -/
theorem read3 (X : S20x2048.Idx → Elt Ideal .f32) : ((cfg0.win 3).blk t0).view.read (Elt Ideal) X = X := by
  funext i
  show X (((cfg0.win 3).blk t0).view.emb i) = X i
  congr 1
  funext a
  apply Fin.ext
  match a with
  | ⟨0, _⟩ => show 0 * 20 + 1 * (i 0).val = (i 0).val; omega
  | ⟨1, _⟩ => show 0 * 2048 + 1 * (i 1).val = (i 1).val; omega

/-- Window 4's one block is its whole array. -/
theorem read4 (X : S5x12288x2048.Idx → Elt Ideal .bf16) : ((cfg0.win 4).blk t0).view.read (Elt Ideal) X = X := by
  funext i
  show X (((cfg0.win 4).blk t0).view.emb i) = X i
  congr 1
  funext a
  apply Fin.ext
  match a with
  | ⟨0, _⟩ => show 0 * 5 + 1 * (i 0).val = (i 0).val; omega
  | ⟨1, _⟩ => show 0 * 12288 + 1 * (i 1).val = (i 1).val; omega
  | ⟨2, _⟩ => show 0 * 2048 + 1 * (i 2).val = (i 2).val; omega

/-- The whole result array after the run, of the arrays as the region finds them. -/
theorem final_eq (c : Dev nD) : (dats m 0 c).arrAt 4 cfg0.N
    = k0_pay1 (V m c main_arg2) (V m c main_arg3) (V m c main_v9) (V m c main_arg4) := by
  have hf : (cfg0.win 4).flush t0 = true := by decide +kernel
  have h := Value.blocks4 m c t0 hf
  rw [Value.flushed4 m c t0, out_eq, read4] at h
  rw [h]
  show k0_pay1 (((cfg0.win 1).blk t0).view.read (Elt Ideal) (V m c main_arg2))
    (((cfg0.win 2).blk t0).view.read (Elt Ideal) (V m c main_arg3))
    (((cfg0.win 0).blk t0).view.read (Elt Ideal) (V m c main_v9))
    (((cfg0.win 3).blk t0).view.read (Elt Ideal) (V m c main_arg4)) = _
  rw [read0, read1, read2, read3]

/-- Every element of the reference's result, under the precondition, is the decoded value. -/
theorem final_apply (c : Dev nD) (hc : ∀ i, (m ((c : Thread nD τ).loc main_arg0) i : BitVec 32).toNat < 1024)
    (b : Fin 5) (s : Fin 12288) (d : Fin 2048) :
    (dats m 0 c).arrAt 4 cfg0.N (ix3 b s d)
      = spec (m ((c : Thread nD τ).loc main_arg0)) (m ((c : Thread nD τ).loc main_arg1)) (m ((c : Thread nD τ).loc main_arg2))
          (m ((c : Thread nD τ).loc main_arg3)) (m ((c : Thread nD τ).loc main_arg4)) b s d := by
  rw [final_eq, V_v9, V_main_arg2, V_main_arg3, V_main_arg4, payload_apply]
  unfold spec
  refine congrArg₂ (fun x y : EReal => x + y) (Finset.sum_congr rfl fun k _ => ?_) rfl
  exact congrArg₂ (fun x y : EReal => x * y) (entries_apply _ hc _ b s k) rfl

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_codes_in_range
public import proofs.«01_k».proof.Proof.Points
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- A code that both comparisons of the precondition accept is a table entry's number. -/
theorem code_lt (x : BitVec 32) (h : BitVec.ofBool ((0#32).sle x) &&& BitVec.ofBool (x.slt 1024#32) = 1#1) : x.toNat < 1024 := by
  have h2 : ((0#32).sle x && x.slt 1024#32) = true := by
    revert h
    cases (0#32).sle x <;> cases x.slt 1024#32 <;> decide
  obtain ⟨ha, hb⟩ := Bool.and_eq_true_iff.mp h2
  have ha' : (0 : Int) ≤ x.toInt := by simpa [BitVec.sle] using ha
  have hb' : x.toInt < 1024 := by simpa [BitVec.slt] using hb
  have hx := x.isLt
  rw [BitVec.toInt_eq_toNat_cond] at ha' hb'
  split_ifs at ha' hb' <;> omega

theorem codes_lt [Cert.Pre_codes_in_range.Facts] (m : (ℓ : Loc Cert.KernelIdeal.nD Cert.KernelIdeal.τ Cert.KernelIdeal.sig) → Buf (Elt Ideal) ℓ)
    (h : Cert.Pre_KernelIdeal_codes_in_range m) (c : Dev Cert.KernelIdeal.nD) (i) :
    (m ((c.tc : Thread Cert.KernelIdeal.nD Cert.KernelIdeal.τ).loc Cert.KernelIdeal.main_arg0) i : BitVec 32).toNat < 1024 :=
  code_lt _ (congrFun (h c) i)

/-- The two programs' results are the same decoded values. -/
theorem results_eq [Cert.Pre_codes_in_range.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_codes_in_range m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    ((Cert.ReferenceIdeal.Gen.dats m' 0 c).arrAt 4 Cert.ReferenceIdeal.cfg0.N : Cert.KernelIdeal.S5x12288x2048.Idx → EReal)
      = (Cert.KernelIdeal.Gen.dats m 0 c).arrAt 7 Cert.KernelIdeal.cfg0.N := by
  obtain ⟨e0, e1, e2, e3, e4⟩ := e
  have hc := codes_lt m h c
  funext i
  obtain ⟨b, s, d, rfl⟩ : ∃ (b : Fin 5) (s : Fin 12288) (d : Fin 2048), i = ix3 b s d := ⟨i 0, i 1, i 2, ValueIdx.eq_ix3 i⟩
  refine (Ref.final_apply m' c (fun i => (congrArg BitVec.toNat (congrFun e0 i)).trans_lt (hc i)) b s d).trans ?_
  rw [e0, e1, e2, e3, e4]
  exact (Ker.final_apply m c b s d).symm

theorem claim : Cert.Claim := ⟨Cert.Kernel.Gen.facts, Cert.KernelIdeal.Gen.facts, Cert.ReferenceIdeal.Gen.facts, Cert.Pre_codes_in_range.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  fun m g m' g' hpre hag =>
    ⟨fun c => (Cert.KernelIdeal.Gen.dats m 0 c).arrAt 7 Cert.KernelIdeal.cfg0.N,
      Cert.KernelIdeal.Value.run_blocks m g,
      (θ_run Cert.ReferenceIdeal.defs _ _).mono
        (fun _ hr c => ⟨(hr c).1.trans (@results_eq Cert.Pre_codes_in_range.Gen.facts m m' hpre c (hag c)), (hr c).2⟩)
        (Cert.ReferenceIdeal.Value.run_blocks m' g')⟩⟩

end Cert.Proof

end
